-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x6016 : Shape := ⟨3, ![24, 1, 6016]⟩
abbrev S18048x3008 : Shape := ⟨2, ![18048, 3008]⟩
abbrev S18048x94 : Shape := ⟨2, ![18048, 94]⟩
abbrev S16 : Shape := ⟨1, ![16]⟩
abbrev S24x94x32x2 : Shape := ⟨4, ![24, 94, 32, 2]⟩
abbrev S24x94x2x32 : Shape := ⟨4, ![24, 94, 2, 32]⟩
abbrev S24x6016 : Shape := ⟨2, ![24, 6016]⟩
abbrev S16x1 : Shape := ⟨2, ![16, 1]⟩
abbrev S16x128 : Shape := ⟨2, ![16, 128]⟩
abbrev S24x18048 : Shape := ⟨2, ![24, 18048]⟩
abbrev S512x3008 : Shape := ⟨2, ![512, 3008]⟩
abbrev S512x94 : Shape := ⟨2, ![512, 94]⟩
abbrev S24x512 : Shape := ⟨2, ![24, 512]⟩
abbrev S94x512 : Shape := ⟨2, ![94, 512]⟩
abbrev S24x256 : Shape := ⟨2, ![24, 256]⟩
abbrev S128x128 : Shape := ⟨2, ![128, 128]⟩
abbrev S1x128 : Shape := ⟨2, ![1, 128]⟩
abbrev S32x128 : Shape := ⟨2, ![32, 128]⟩
abbrev S8x128 : Shape := ⟨2, ![8, 128]⟩
abbrev S16x128x1 : Shape := ⟨3, ![16, 128, 1]⟩
abbrev S64x128 : Shape := ⟨2, ![64, 128]⟩
abbrev S256x128 : Shape := ⟨2, ![256, 128]⟩
abbrev S256x256 : Shape := ⟨2, ![256, 256]⟩
abbrev S128x64 : Shape := ⟨2, ![128, 64]⟩
abbrev S128x256 : Shape := ⟨2, ![128, 256]⟩
abbrev S24x128 : Shape := ⟨2, ![24, 128]⟩
abbrev S24x1x18048 : Shape := ⟨3, ![24, 1, 18048]⟩

abbrev nBuf : Space → Nat
  | .hbm => 11
  | .vmem => 9
  | .smem => 0
  | _ => 0

abbrev bufTy : (tb : Table) → Fin (tcTables nBuf tb) → BufTy
  | .hbm, ⟨0, _⟩ => ⟨S24x1x6016, .bf16⟩
  | .hbm, ⟨1, _⟩ => ⟨S18048x3008, .i8⟩
  | .hbm, ⟨2, _⟩ => ⟨S18048x94, .f32⟩
  | .hbm, ⟨3, _⟩ => ⟨S16, .f32⟩
  | .hbm, ⟨4, _⟩ => ⟨S24x94x32x2, .bf16⟩
  | .hbm, ⟨5, _⟩ => ⟨S24x94x2x32, .bf16⟩
  | .hbm, ⟨6, _⟩ => ⟨S24x6016, .bf16⟩
  | .hbm, ⟨7, _⟩ => ⟨S16x1, .f32⟩
  | .hbm, ⟨8, _⟩ => ⟨S16x128, .f32⟩
  | .hbm, ⟨9, _⟩ => ⟨S24x18048, .bf16⟩
  | .hbm, ⟨10, _⟩ => ⟨S24x1x18048, .bf16⟩
  | .local _ .vmem, ⟨0, _⟩ => ⟨S24x6016, .bf16⟩
  | .local _ .vmem, ⟨1, _⟩ => ⟨S512x3008, .i8⟩
  | .local _ .vmem, ⟨2, _⟩ => ⟨S512x3008, .i8⟩
  | .local _ .vmem, ⟨3, _⟩ => ⟨S512x94, .f32⟩
  | .local _ .vmem, ⟨4, _⟩ => ⟨S512x94, .f32⟩
  | .local _ .vmem, ⟨5, _⟩ => ⟨S16x128, .f32⟩
  | .local _ .vmem, ⟨6, _⟩ => ⟨S24x512, .bf16⟩
  | .local _ .vmem, ⟨7, _⟩ => ⟨S24x512, .bf16⟩
  | .local _ .vmem, ⟨8, _⟩ => ⟨S94x512, .f32⟩
  | _, _ => ⟨S24x1x6016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32 : BitVec 32 := 0#32
  let c2_i32 : BitVec 32 := 2#32
  let v7 : BitVec 32 := Scalar.addi c0_i32 c2_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  v8
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_6 : BitVec 32 := 0#32
  let v11 : BitVec 32 := Scalar.addi v9 c0_i32_6
  v11
def k0_off1 (k0_t1 : Fin k0_t1_loop.trips) (c0_i32_6 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v11 : BitVec 32 := Scalar.addi v9 c0_i32_6
  let v12 : BitVec 32 := v11
  let v13 : Index := Scalar.indexCast v12
  let c0_7 : Index := 0#32
  ![v13.toNat, 0]
def k0_off2 (k0_t1 : Fin k0_t1_loop.trips) (c0_i32_6 : BitVec 32) : Fin 2 → Nat :=
  let c0_8 : Index := 0#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v11 : BitVec 32 := Scalar.addi v9 c0_i32_6
  let v12 : BitVec 32 := v11
  let v16 : Index := Scalar.indexCast v12
  ![0, v16.toNat]
def k0_off3 (k0_t1 : Fin k0_t1_loop.trips) (c0_i32_6 : BitVec 32) : Fin 2 → Nat :=
  let c1 : Index := 1#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v11 : BitVec 32 := Scalar.addi v9 c0_i32_6
  let v12 : BitVec 32 := v11
  let v62 : Index := Scalar.indexCast v12
  ![1, v62.toNat]
def k0_off4 (k0_t1 : Fin k0_t1_loop.trips) (c0_i32_6 : BitVec 32) : Fin 2 → Nat :=
  let c2 : Index := 2#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v11 : BitVec 32 := Scalar.addi v9 c0_i32_6
  let v12 : BitVec 32 := v11
  let v108 : Index := Scalar.indexCast v12
  ![2, v108.toNat]
def k0_off5 (k0_t1 : Fin k0_t1_loop.trips) (c0_i32_6 : BitVec 32) : Fin 2 → Nat :=
  let c3 : Index := 3#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v11 : BitVec 32 := Scalar.addi v9 c0_i32_6
  let v12 : BitVec 32 := v11
  let v154 : Index := Scalar.indexCast v12
  ![3, v154.toNat]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32 : BitVec 32 := 128#32
  let v201 : BitVec 32 := Scalar.addi v9 c128_i32
  v201
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_79 : BitVec 32 := 0#32
  let v396 : BitVec 32 := Scalar.addi v9 c0_i32_79
  v396
def k0_off6 (k0_t1 : Fin k0_t1_loop.trips) (c0_i32_79 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v396 : BitVec 32 := Scalar.addi v9 c0_i32_79
  let v397 : BitVec 32 := v396
  let v398 : Index := Scalar.indexCast v397
  let c128 : Index := 128#32
  ![v398.toNat, 128]
def k0_off7 (k0_t1 : Fin k0_t1_loop.trips) (c0_i32_79 : BitVec 32) : Fin 2 → Nat :=
  let c4 : Index := 4#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v396 : BitVec 32 := Scalar.addi v9 c0_i32_79
  let v397 : BitVec 32 := v396
  let v401 : Index := Scalar.indexCast v397
  ![4, v401.toNat]
def k0_off8 (k0_t1 : Fin k0_t1_loop.trips) (c0_i32_79 : BitVec 32) : Fin 2 → Nat :=
  let c5 : Index := 5#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v396 : BitVec 32 := Scalar.addi v9 c0_i32_79
  let v397 : BitVec 32 := v396
  let v447 : Index := Scalar.indexCast v397
  ![5, v447.toNat]
def k0_off9 (k0_t1 : Fin k0_t1_loop.trips) (c0_i32_79 : BitVec 32) : Fin 2 → Nat :=
  let c6 : Index := 6#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v396 : BitVec 32 := Scalar.addi v9 c0_i32_79
  let v397 : BitVec 32 := v396
  let v493 : Index := Scalar.indexCast v397
  ![6, v493.toNat]
def k0_off10 (k0_t1 : Fin k0_t1_loop.trips) (c0_i32_79 : BitVec 32) : Fin 2 → Nat :=
  let c7 : Index := 7#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v396 : BitVec 32 := Scalar.addi v9 c0_i32_79
  let v397 : BitVec 32 := v396
  let v539 : Index := Scalar.indexCast v397
  ![7, v539.toNat]
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_112 : BitVec 32 := 128#32
  let v586 : BitVec 32 := Scalar.addi v9 c128_i32_112
  v586
def k0_mult6 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_152 : BitVec 32 := 0#32
  let v781 : BitVec 32 := Scalar.addi v9 c0_i32_152
  v781
def k0_off11 (k0_t1 : Fin k0_t1_loop.trips) (c0_i32_152 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v781 : BitVec 32 := Scalar.addi v9 c0_i32_152
  let v782 : BitVec 32 := v781
  let v783 : Index := Scalar.indexCast v782
  let c256_153 : Index := 256#32
  ![v783.toNat, 256]
def k0_off12 (k0_t1 : Fin k0_t1_loop.trips) (c0_i32_152 : BitVec 32) : Fin 2 → Nat :=
  let c8 : Index := 8#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v781 : BitVec 32 := Scalar.addi v9 c0_i32_152
  let v782 : BitVec 32 := v781
  let v786 : Index := Scalar.indexCast v782
  ![8, v786.toNat]
def k0_off13 (k0_t1 : Fin k0_t1_loop.trips) (c0_i32_152 : BitVec 32) : Fin 2 → Nat :=
  let c9 : Index := 9#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v781 : BitVec 32 := Scalar.addi v9 c0_i32_152
  let v782 : BitVec 32 := v781
  let v832 : Index := Scalar.indexCast v782
  ![9, v832.toNat]
def k0_off14 (k0_t1 : Fin k0_t1_loop.trips) (c0_i32_152 : BitVec 32) : Fin 2 → Nat :=
  let c10 : Index := 10#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v781 : BitVec 32 := Scalar.addi v9 c0_i32_152
  let v782 : BitVec 32 := v781
  let v878 : Index := Scalar.indexCast v782
  ![10, v878.toNat]
def k0_off15 (k0_t1 : Fin k0_t1_loop.trips) (c0_i32_152 : BitVec 32) : Fin 2 → Nat :=
  let c11 : Index := 11#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v781 : BitVec 32 := Scalar.addi v9 c0_i32_152
  let v782 : BitVec 32 := v781
  let v924 : Index := Scalar.indexCast v782
  ![11, v924.toNat]
def k0_mult7 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_186 : BitVec 32 := 128#32
  let v971 : BitVec 32 := Scalar.addi v9 c128_i32_186
  v971
def k0_mult8 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_226 : BitVec 32 := 0#32
  let v1166 : BitVec 32 := Scalar.addi v9 c0_i32_226
  v1166
def k0_off16 (k0_t1 : Fin k0_t1_loop.trips) (c0_i32_226 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1166 : BitVec 32 := Scalar.addi v9 c0_i32_226
  let v1167 : BitVec 32 := v1166
  let v1168 : Index := Scalar.indexCast v1167
  let c384 : Index := 384#32
  ![v1168.toNat, 384]
def k0_off17 (k0_t1 : Fin k0_t1_loop.trips) (c0_i32_226 : BitVec 32) : Fin 2 → Nat :=
  let c12 : Index := 12#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1166 : BitVec 32 := Scalar.addi v9 c0_i32_226
  let v1167 : BitVec 32 := v1166
  let v1171 : Index := Scalar.indexCast v1167
  ![12, v1171.toNat]
def k0_off18 (k0_t1 : Fin k0_t1_loop.trips) (c0_i32_226 : BitVec 32) : Fin 2 → Nat :=
  let c13 : Index := 13#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1166 : BitVec 32 := Scalar.addi v9 c0_i32_226
  let v1167 : BitVec 32 := v1166
  let v1217 : Index := Scalar.indexCast v1167
  ![13, v1217.toNat]
def k0_off19 (k0_t1 : Fin k0_t1_loop.trips) (c0_i32_226 : BitVec 32) : Fin 2 → Nat :=
  let c14 : Index := 14#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1166 : BitVec 32 := Scalar.addi v9 c0_i32_226
  let v1167 : BitVec 32 := v1166
  let v1263 : Index := Scalar.indexCast v1167
  ![14, v1263.toNat]
def k0_off20 (k0_t1 : Fin k0_t1_loop.trips) (c0_i32_226 : BitVec 32) : Fin 2 → Nat :=
  let c15 : Index := 15#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1166 : BitVec 32 := Scalar.addi v9 c0_i32_226
  let v1167 : BitVec 32 := v1166
  let v1309 : Index := Scalar.indexCast v1167
  ![15, v1309.toNat]
def k0_mult9 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_259 : BitVec 32 := 128#32
  let v1356 : BitVec 32 := Scalar.addi v9 c128_i32_259
  v1356
def k0_mult10 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_299 : BitVec 32 := 0#32
  let v1551 : BitVec 32 := Scalar.addi v9 c0_i32_299
  v1551
def k0_off21 (k0_t1 : Fin k0_t1_loop.trips) (c0_i32_299 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1551 : BitVec 32 := Scalar.addi v9 c0_i32_299
  let v1552 : BitVec 32 := v1551
  let v1553 : Index := Scalar.indexCast v1552
  let c512_300 : Index := 512#32
  ![v1553.toNat, 512]
def k0_off22 (k0_t1 : Fin k0_t1_loop.trips) (c0_i32_299 : BitVec 32) : Fin 2 → Nat :=
  let c16 : Index := 16#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1551 : BitVec 32 := Scalar.addi v9 c0_i32_299
  let v1552 : BitVec 32 := v1551
  let v1556 : Index := Scalar.indexCast v1552
  ![16, v1556.toNat]
def k0_off23 (k0_t1 : Fin k0_t1_loop.trips) (c0_i32_299 : BitVec 32) : Fin 2 → Nat :=
  let c17 : Index := 17#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1551 : BitVec 32 := Scalar.addi v9 c0_i32_299
  let v1552 : BitVec 32 := v1551
  let v1602 : Index := Scalar.indexCast v1552
  ![17, v1602.toNat]
def k0_off24 (k0_t1 : Fin k0_t1_loop.trips) (c0_i32_299 : BitVec 32) : Fin 2 → Nat :=
  let c18 : Index := 18#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1551 : BitVec 32 := Scalar.addi v9 c0_i32_299
  let v1552 : BitVec 32 := v1551
  let v1648 : Index := Scalar.indexCast v1552
  ![18, v1648.toNat]
def k0_off25 (k0_t1 : Fin k0_t1_loop.trips) (c0_i32_299 : BitVec 32) : Fin 2 → Nat :=
  let c19 : Index := 19#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1551 : BitVec 32 := Scalar.addi v9 c0_i32_299
  let v1552 : BitVec 32 := v1551
  let v1694 : Index := Scalar.indexCast v1552
  ![19, v1694.toNat]
def k0_mult11 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_333 : BitVec 32 := 128#32
  let v1741 : BitVec 32 := Scalar.addi v9 c128_i32_333
  v1741
def k0_mult12 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_373 : BitVec 32 := 0#32
  let v1936 : BitVec 32 := Scalar.addi v9 c0_i32_373
  v1936
def k0_off26 (k0_t1 : Fin k0_t1_loop.trips) (c0_i32_373 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1936 : BitVec 32 := Scalar.addi v9 c0_i32_373
  let v1937 : BitVec 32 := v1936
  let v1938 : Index := Scalar.indexCast v1937
  let c640 : Index := 640#32
  ![v1938.toNat, 640]
def k0_off27 (k0_t1 : Fin k0_t1_loop.trips) (c0_i32_373 : BitVec 32) : Fin 2 → Nat :=
  let c20 : Index := 20#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1936 : BitVec 32 := Scalar.addi v9 c0_i32_373
  let v1937 : BitVec 32 := v1936
  let v1941 : Index := Scalar.indexCast v1937
  ![20, v1941.toNat]
def k0_off28 (k0_t1 : Fin k0_t1_loop.trips) (c0_i32_373 : BitVec 32) : Fin 2 → Nat :=
  let c21 : Index := 21#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1936 : BitVec 32 := Scalar.addi v9 c0_i32_373
  let v1937 : BitVec 32 := v1936
  let v1987 : Index := Scalar.indexCast v1937
  ![21, v1987.toNat]
def k0_off29 (k0_t1 : Fin k0_t1_loop.trips) (c0_i32_373 : BitVec 32) : Fin 2 → Nat :=
  let c22 : Index := 22#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1936 : BitVec 32 := Scalar.addi v9 c0_i32_373
  let v1937 : BitVec 32 := v1936
  let v2033 : Index := Scalar.indexCast v1937
  ![22, v2033.toNat]
def k0_off30 (k0_t1 : Fin k0_t1_loop.trips) (c0_i32_373 : BitVec 32) : Fin 2 → Nat :=
  let c23 : Index := 23#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v1936 : BitVec 32 := Scalar.addi v9 c0_i32_373
  let v1937 : BitVec 32 := v1936
  let v2079 : Index := Scalar.indexCast v1937
  ![23, v2079.toNat]
def k0_mult13 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_406 : BitVec 32 := 128#32
  let v2126 : BitVec 32 := Scalar.addi v9 c128_i32_406
  v2126
def k0_mult14 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_446 : BitVec 32 := 0#32
  let v2321 : BitVec 32 := Scalar.addi v9 c0_i32_446
  v2321
def k0_off31 (k0_t1 : Fin k0_t1_loop.trips) (c0_i32_446 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v2321 : BitVec 32 := Scalar.addi v9 c0_i32_446
  let v2322 : BitVec 32 := v2321
  let v2323 : Index := Scalar.indexCast v2322
  let c768_447 : Index := 768#32
  ![v2323.toNat, 768]
def k0_off32 (k0_t1 : Fin k0_t1_loop.trips) (c0_i32_446 : BitVec 32) : Fin 2 → Nat :=
  let c24 : Index := 24#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v2321 : BitVec 32 := Scalar.addi v9 c0_i32_446
  let v2322 : BitVec 32 := v2321
  let v2326 : Index := Scalar.indexCast v2322
  ![24, v2326.toNat]
def k0_off33 (k0_t1 : Fin k0_t1_loop.trips) (c0_i32_446 : BitVec 32) : Fin 2 → Nat :=
  let c25 : Index := 25#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v2321 : BitVec 32 := Scalar.addi v9 c0_i32_446
  let v2322 : BitVec 32 := v2321
  let v2372 : Index := Scalar.indexCast v2322
  ![25, v2372.toNat]
def k0_off34 (k0_t1 : Fin k0_t1_loop.trips) (c0_i32_446 : BitVec 32) : Fin 2 → Nat :=
  let c26 : Index := 26#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v2321 : BitVec 32 := Scalar.addi v9 c0_i32_446
  let v2322 : BitVec 32 := v2321
  let v2418 : Index := Scalar.indexCast v2322
  ![26, v2418.toNat]
def k0_off35 (k0_t1 : Fin k0_t1_loop.trips) (c0_i32_446 : BitVec 32) : Fin 2 → Nat :=
  let c27 : Index := 27#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v2321 : BitVec 32 := Scalar.addi v9 c0_i32_446
  let v2322 : BitVec 32 := v2321
  let v2464 : Index := Scalar.indexCast v2322
  ![27, v2464.toNat]
def k0_mult15 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_480 : BitVec 32 := 128#32
  let v2511 : BitVec 32 := Scalar.addi v9 c128_i32_480
  v2511
def k0_mult16 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_520 : BitVec 32 := 0#32
  let v2706 : BitVec 32 := Scalar.addi v9 c0_i32_520
  v2706
def k0_off36 (k0_t1 : Fin k0_t1_loop.trips) (c0_i32_520 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v2706 : BitVec 32 := Scalar.addi v9 c0_i32_520
  let v2707 : BitVec 32 := v2706
  let v2708 : Index := Scalar.indexCast v2707
  let c896 : Index := 896#32
  ![v2708.toNat, 896]
def k0_off37 (k0_t1 : Fin k0_t1_loop.trips) (c0_i32_520 : BitVec 32) : Fin 2 → Nat :=
  let c28 : Index := 28#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v2706 : BitVec 32 := Scalar.addi v9 c0_i32_520
  let v2707 : BitVec 32 := v2706
  let v2711 : Index := Scalar.indexCast v2707
  ![28, v2711.toNat]
def k0_off38 (k0_t1 : Fin k0_t1_loop.trips) (c0_i32_520 : BitVec 32) : Fin 2 → Nat :=
  let c29 : Index := 29#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v2706 : BitVec 32 := Scalar.addi v9 c0_i32_520
  let v2707 : BitVec 32 := v2706
  let v2757 : Index := Scalar.indexCast v2707
  ![29, v2757.toNat]
def k0_off39 (k0_t1 : Fin k0_t1_loop.trips) (c0_i32_520 : BitVec 32) : Fin 2 → Nat :=
  let c30 : Index := 30#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v2706 : BitVec 32 := Scalar.addi v9 c0_i32_520
  let v2707 : BitVec 32 := v2706
  let v2803 : Index := Scalar.indexCast v2707
  ![30, v2803.toNat]
def k0_off40 (k0_t1 : Fin k0_t1_loop.trips) (c0_i32_520 : BitVec 32) : Fin 2 → Nat :=
  let c31 : Index := 31#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v2706 : BitVec 32 := Scalar.addi v9 c0_i32_520
  let v2707 : BitVec 32 := v2706
  let v2849 : Index := Scalar.indexCast v2707
  ![31, v2849.toNat]
def k0_mult17 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_553 : BitVec 32 := 128#32
  let v2896 : BitVec 32 := Scalar.addi v9 c128_i32_553
  v2896
def k0_mult18 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_593 : BitVec 32 := 0#32
  let v3091 : BitVec 32 := Scalar.addi v9 c0_i32_593
  v3091
def k0_off41 (k0_t1 : Fin k0_t1_loop.trips) (c0_i32_593 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3091 : BitVec 32 := Scalar.addi v9 c0_i32_593
  let v3092 : BitVec 32 := v3091
  let v3093 : Index := Scalar.indexCast v3092
  let c1024_594 : Index := 1024#32
  ![v3093.toNat, 1024]
def k0_off42 (k0_t1 : Fin k0_t1_loop.trips) (c0_i32_593 : BitVec 32) : Fin 2 → Nat :=
  let c32 : Index := 32#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3091 : BitVec 32 := Scalar.addi v9 c0_i32_593
  let v3092 : BitVec 32 := v3091
  let v3096 : Index := Scalar.indexCast v3092
  ![32, v3096.toNat]
def k0_off43 (k0_t1 : Fin k0_t1_loop.trips) (c0_i32_593 : BitVec 32) : Fin 2 → Nat :=
  let c33 : Index := 33#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3091 : BitVec 32 := Scalar.addi v9 c0_i32_593
  let v3092 : BitVec 32 := v3091
  let v3142 : Index := Scalar.indexCast v3092
  ![33, v3142.toNat]
def k0_off44 (k0_t1 : Fin k0_t1_loop.trips) (c0_i32_593 : BitVec 32) : Fin 2 → Nat :=
  let c34 : Index := 34#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3091 : BitVec 32 := Scalar.addi v9 c0_i32_593
  let v3092 : BitVec 32 := v3091
  let v3188 : Index := Scalar.indexCast v3092
  ![34, v3188.toNat]
def k0_off45 (k0_t1 : Fin k0_t1_loop.trips) (c0_i32_593 : BitVec 32) : Fin 2 → Nat :=
  let c35 : Index := 35#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3091 : BitVec 32 := Scalar.addi v9 c0_i32_593
  let v3092 : BitVec 32 := v3091
  let v3234 : Index := Scalar.indexCast v3092
  ![35, v3234.toNat]
def k0_mult19 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_627 : BitVec 32 := 128#32
  let v3281 : BitVec 32 := Scalar.addi v9 c128_i32_627
  v3281
def k0_mult20 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_667 : BitVec 32 := 0#32
  let v3476 : BitVec 32 := Scalar.addi v9 c0_i32_667
  v3476
def k0_off46 (k0_t1 : Fin k0_t1_loop.trips) (c0_i32_667 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3476 : BitVec 32 := Scalar.addi v9 c0_i32_667
  let v3477 : BitVec 32 := v3476
  let v3478 : Index := Scalar.indexCast v3477
  let c1152 : Index := 1152#32
  ![v3478.toNat, 1152]
def k0_off47 (k0_t1 : Fin k0_t1_loop.trips) (c0_i32_667 : BitVec 32) : Fin 2 → Nat :=
  let c36 : Index := 36#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3476 : BitVec 32 := Scalar.addi v9 c0_i32_667
  let v3477 : BitVec 32 := v3476
  let v3481 : Index := Scalar.indexCast v3477
  ![36, v3481.toNat]
def k0_off48 (k0_t1 : Fin k0_t1_loop.trips) (c0_i32_667 : BitVec 32) : Fin 2 → Nat :=
  let c37 : Index := 37#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3476 : BitVec 32 := Scalar.addi v9 c0_i32_667
  let v3477 : BitVec 32 := v3476
  let v3527 : Index := Scalar.indexCast v3477
  ![37, v3527.toNat]
def k0_off49 (k0_t1 : Fin k0_t1_loop.trips) (c0_i32_667 : BitVec 32) : Fin 2 → Nat :=
  let c38 : Index := 38#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3476 : BitVec 32 := Scalar.addi v9 c0_i32_667
  let v3477 : BitVec 32 := v3476
  let v3573 : Index := Scalar.indexCast v3477
  ![38, v3573.toNat]
def k0_off50 (k0_t1 : Fin k0_t1_loop.trips) (c0_i32_667 : BitVec 32) : Fin 2 → Nat :=
  let c39 : Index := 39#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3476 : BitVec 32 := Scalar.addi v9 c0_i32_667
  let v3477 : BitVec 32 := v3476
  let v3619 : Index := Scalar.indexCast v3477
  ![39, v3619.toNat]
def k0_mult21 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_700 : BitVec 32 := 128#32
  let v3666 : BitVec 32 := Scalar.addi v9 c128_i32_700
  v3666
def k0_mult22 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_740 : BitVec 32 := 0#32
  let v3861 : BitVec 32 := Scalar.addi v9 c0_i32_740
  v3861
def k0_off51 (k0_t1 : Fin k0_t1_loop.trips) (c0_i32_740 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3861 : BitVec 32 := Scalar.addi v9 c0_i32_740
  let v3862 : BitVec 32 := v3861
  let v3863 : Index := Scalar.indexCast v3862
  let c1280_741 : Index := 1280#32
  ![v3863.toNat, 1280]
def k0_off52 (k0_t1 : Fin k0_t1_loop.trips) (c0_i32_740 : BitVec 32) : Fin 2 → Nat :=
  let c40 : Index := 40#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3861 : BitVec 32 := Scalar.addi v9 c0_i32_740
  let v3862 : BitVec 32 := v3861
  let v3866 : Index := Scalar.indexCast v3862
  ![40, v3866.toNat]
def k0_off53 (k0_t1 : Fin k0_t1_loop.trips) (c0_i32_740 : BitVec 32) : Fin 2 → Nat :=
  let c41 : Index := 41#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3861 : BitVec 32 := Scalar.addi v9 c0_i32_740
  let v3862 : BitVec 32 := v3861
  let v3912 : Index := Scalar.indexCast v3862
  ![41, v3912.toNat]
def k0_off54 (k0_t1 : Fin k0_t1_loop.trips) (c0_i32_740 : BitVec 32) : Fin 2 → Nat :=
  let c42 : Index := 42#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3861 : BitVec 32 := Scalar.addi v9 c0_i32_740
  let v3862 : BitVec 32 := v3861
  let v3958 : Index := Scalar.indexCast v3862
  ![42, v3958.toNat]
def k0_off55 (k0_t1 : Fin k0_t1_loop.trips) (c0_i32_740 : BitVec 32) : Fin 2 → Nat :=
  let c43 : Index := 43#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v3861 : BitVec 32 := Scalar.addi v9 c0_i32_740
  let v3862 : BitVec 32 := v3861
  let v4004 : Index := Scalar.indexCast v3862
  ![43, v4004.toNat]
def k0_mult23 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_774 : BitVec 32 := 128#32
  let v4051 : BitVec 32 := Scalar.addi v9 c128_i32_774
  v4051
def k0_mult24 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_814 : BitVec 32 := 0#32
  let v4246 : BitVec 32 := Scalar.addi v9 c0_i32_814
  v4246
def k0_off56 (k0_t1 : Fin k0_t1_loop.trips) (c0_i32_814 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v4246 : BitVec 32 := Scalar.addi v9 c0_i32_814
  let v4247 : BitVec 32 := v4246
  let v4248 : Index := Scalar.indexCast v4247
  let c1408 : Index := 1408#32
  ![v4248.toNat, 1408]
def k0_off57 (k0_t1 : Fin k0_t1_loop.trips) (c0_i32_814 : BitVec 32) : Fin 2 → Nat :=
  let c44 : Index := 44#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v4246 : BitVec 32 := Scalar.addi v9 c0_i32_814
  let v4247 : BitVec 32 := v4246
  let v4251 : Index := Scalar.indexCast v4247
  ![44, v4251.toNat]
def k0_off58 (k0_t1 : Fin k0_t1_loop.trips) (c0_i32_814 : BitVec 32) : Fin 2 → Nat :=
  let c45 : Index := 45#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v4246 : BitVec 32 := Scalar.addi v9 c0_i32_814
  let v4247 : BitVec 32 := v4246
  let v4297 : Index := Scalar.indexCast v4247
  ![45, v4297.toNat]
def k0_off59 (k0_t1 : Fin k0_t1_loop.trips) (c0_i32_814 : BitVec 32) : Fin 2 → Nat :=
  let c46 : Index := 46#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v4246 : BitVec 32 := Scalar.addi v9 c0_i32_814
  let v4247 : BitVec 32 := v4246
  let v4343 : Index := Scalar.indexCast v4247
  ![46, v4343.toNat]
def k0_off60 (k0_t1 : Fin k0_t1_loop.trips) (c0_i32_814 : BitVec 32) : Fin 2 → Nat :=
  let c47 : Index := 47#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v4246 : BitVec 32 := Scalar.addi v9 c0_i32_814
  let v4247 : BitVec 32 := v4246
  let v4389 : Index := Scalar.indexCast v4247
  ![47, v4389.toNat]
def k0_mult25 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_847 : BitVec 32 := 128#32
  let v4436 : BitVec 32 := Scalar.addi v9 c128_i32_847
  v4436
def k0_mult26 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_887 : BitVec 32 := 0#32
  let v4631 : BitVec 32 := Scalar.addi v9 c0_i32_887
  v4631
def k0_off61 (k0_t1 : Fin k0_t1_loop.trips) (c0_i32_887 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v4631 : BitVec 32 := Scalar.addi v9 c0_i32_887
  let v4632 : BitVec 32 := v4631
  let v4633 : Index := Scalar.indexCast v4632
  let c1536_888 : Index := 1536#32
  ![v4633.toNat, 1536]
def k0_off62 (k0_t1 : Fin k0_t1_loop.trips) (c0_i32_887 : BitVec 32) : Fin 2 → Nat :=
  let c48 : Index := 48#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v4631 : BitVec 32 := Scalar.addi v9 c0_i32_887
  let v4632 : BitVec 32 := v4631
  let v4636 : Index := Scalar.indexCast v4632
  ![48, v4636.toNat]
def k0_off63 (k0_t1 : Fin k0_t1_loop.trips) (c0_i32_887 : BitVec 32) : Fin 2 → Nat :=
  let c49 : Index := 49#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v4631 : BitVec 32 := Scalar.addi v9 c0_i32_887
  let v4632 : BitVec 32 := v4631
  let v4682 : Index := Scalar.indexCast v4632
  ![49, v4682.toNat]
def k0_off64 (k0_t1 : Fin k0_t1_loop.trips) (c0_i32_887 : BitVec 32) : Fin 2 → Nat :=
  let c50 : Index := 50#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v4631 : BitVec 32 := Scalar.addi v9 c0_i32_887
  let v4632 : BitVec 32 := v4631
  let v4728 : Index := Scalar.indexCast v4632
  ![50, v4728.toNat]
def k0_off65 (k0_t1 : Fin k0_t1_loop.trips) (c0_i32_887 : BitVec 32) : Fin 2 → Nat :=
  let c51 : Index := 51#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v4631 : BitVec 32 := Scalar.addi v9 c0_i32_887
  let v4632 : BitVec 32 := v4631
  let v4774 : Index := Scalar.indexCast v4632
  ![51, v4774.toNat]
def k0_mult27 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_921 : BitVec 32 := 128#32
  let v4821 : BitVec 32 := Scalar.addi v9 c128_i32_921
  v4821
def k0_mult28 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_961 : BitVec 32 := 0#32
  let v5016 : BitVec 32 := Scalar.addi v9 c0_i32_961
  v5016
def k0_off66 (k0_t1 : Fin k0_t1_loop.trips) (c0_i32_961 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5016 : BitVec 32 := Scalar.addi v9 c0_i32_961
  let v5017 : BitVec 32 := v5016
  let v5018 : Index := Scalar.indexCast v5017
  let c1664 : Index := 1664#32
  ![v5018.toNat, 1664]
def k0_off67 (k0_t1 : Fin k0_t1_loop.trips) (c0_i32_961 : BitVec 32) : Fin 2 → Nat :=
  let c52 : Index := 52#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5016 : BitVec 32 := Scalar.addi v9 c0_i32_961
  let v5017 : BitVec 32 := v5016
  let v5021 : Index := Scalar.indexCast v5017
  ![52, v5021.toNat]
def k0_off68 (k0_t1 : Fin k0_t1_loop.trips) (c0_i32_961 : BitVec 32) : Fin 2 → Nat :=
  let c53 : Index := 53#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5016 : BitVec 32 := Scalar.addi v9 c0_i32_961
  let v5017 : BitVec 32 := v5016
  let v5067 : Index := Scalar.indexCast v5017
  ![53, v5067.toNat]
def k0_off69 (k0_t1 : Fin k0_t1_loop.trips) (c0_i32_961 : BitVec 32) : Fin 2 → Nat :=
  let c54 : Index := 54#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5016 : BitVec 32 := Scalar.addi v9 c0_i32_961
  let v5017 : BitVec 32 := v5016
  let v5113 : Index := Scalar.indexCast v5017
  ![54, v5113.toNat]
def k0_off70 (k0_t1 : Fin k0_t1_loop.trips) (c0_i32_961 : BitVec 32) : Fin 2 → Nat :=
  let c55 : Index := 55#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5016 : BitVec 32 := Scalar.addi v9 c0_i32_961
  let v5017 : BitVec 32 := v5016
  let v5159 : Index := Scalar.indexCast v5017
  ![55, v5159.toNat]
def k0_mult29 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_994 : BitVec 32 := 128#32
  let v5206 : BitVec 32 := Scalar.addi v9 c128_i32_994
  v5206
def k0_mult30 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_1034 : BitVec 32 := 0#32
  let v5401 : BitVec 32 := Scalar.addi v9 c0_i32_1034
  v5401
def k0_off71 (k0_t1 : Fin k0_t1_loop.trips) (c0_i32_1034 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5401 : BitVec 32 := Scalar.addi v9 c0_i32_1034
  let v5402 : BitVec 32 := v5401
  let v5403 : Index := Scalar.indexCast v5402
  let c1792_1035 : Index := 1792#32
  ![v5403.toNat, 1792]
def k0_off72 (k0_t1 : Fin k0_t1_loop.trips) (c0_i32_1034 : BitVec 32) : Fin 2 → Nat :=
  let c56 : Index := 56#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5401 : BitVec 32 := Scalar.addi v9 c0_i32_1034
  let v5402 : BitVec 32 := v5401
  let v5406 : Index := Scalar.indexCast v5402
  ![56, v5406.toNat]
def k0_off73 (k0_t1 : Fin k0_t1_loop.trips) (c0_i32_1034 : BitVec 32) : Fin 2 → Nat :=
  let c57 : Index := 57#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5401 : BitVec 32 := Scalar.addi v9 c0_i32_1034
  let v5402 : BitVec 32 := v5401
  let v5452 : Index := Scalar.indexCast v5402
  ![57, v5452.toNat]
def k0_off74 (k0_t1 : Fin k0_t1_loop.trips) (c0_i32_1034 : BitVec 32) : Fin 2 → Nat :=
  let c58 : Index := 58#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5401 : BitVec 32 := Scalar.addi v9 c0_i32_1034
  let v5402 : BitVec 32 := v5401
  let v5498 : Index := Scalar.indexCast v5402
  ![58, v5498.toNat]
def k0_off75 (k0_t1 : Fin k0_t1_loop.trips) (c0_i32_1034 : BitVec 32) : Fin 2 → Nat :=
  let c59 : Index := 59#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5401 : BitVec 32 := Scalar.addi v9 c0_i32_1034
  let v5402 : BitVec 32 := v5401
  let v5544 : Index := Scalar.indexCast v5402
  ![59, v5544.toNat]
def k0_mult31 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_1068 : BitVec 32 := 128#32
  let v5591 : BitVec 32 := Scalar.addi v9 c128_i32_1068
  v5591
def k0_mult32 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_1108 : BitVec 32 := 0#32
  let v5786 : BitVec 32 := Scalar.addi v9 c0_i32_1108
  v5786
def k0_off76 (k0_t1 : Fin k0_t1_loop.trips) (c0_i32_1108 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5786 : BitVec 32 := Scalar.addi v9 c0_i32_1108
  let v5787 : BitVec 32 := v5786
  let v5788 : Index := Scalar.indexCast v5787
  let c1920 : Index := 1920#32
  ![v5788.toNat, 1920]
def k0_off77 (k0_t1 : Fin k0_t1_loop.trips) (c0_i32_1108 : BitVec 32) : Fin 2 → Nat :=
  let c60 : Index := 60#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5786 : BitVec 32 := Scalar.addi v9 c0_i32_1108
  let v5787 : BitVec 32 := v5786
  let v5791 : Index := Scalar.indexCast v5787
  ![60, v5791.toNat]
def k0_off78 (k0_t1 : Fin k0_t1_loop.trips) (c0_i32_1108 : BitVec 32) : Fin 2 → Nat :=
  let c61 : Index := 61#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5786 : BitVec 32 := Scalar.addi v9 c0_i32_1108
  let v5787 : BitVec 32 := v5786
  let v5837 : Index := Scalar.indexCast v5787
  ![61, v5837.toNat]
def k0_off79 (k0_t1 : Fin k0_t1_loop.trips) (c0_i32_1108 : BitVec 32) : Fin 2 → Nat :=
  let c62 : Index := 62#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5786 : BitVec 32 := Scalar.addi v9 c0_i32_1108
  let v5787 : BitVec 32 := v5786
  let v5883 : Index := Scalar.indexCast v5787
  ![62, v5883.toNat]
def k0_off80 (k0_t1 : Fin k0_t1_loop.trips) (c0_i32_1108 : BitVec 32) : Fin 2 → Nat :=
  let c63 : Index := 63#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v5786 : BitVec 32 := Scalar.addi v9 c0_i32_1108
  let v5787 : BitVec 32 := v5786
  let v5929 : Index := Scalar.indexCast v5787
  ![63, v5929.toNat]
def k0_mult33 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_1141 : BitVec 32 := 128#32
  let v5976 : BitVec 32 := Scalar.addi v9 c128_i32_1141
  v5976
def k0_mult34 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_1181 : BitVec 32 := 0#32
  let v6171 : BitVec 32 := Scalar.addi v9 c0_i32_1181
  v6171
def k0_off81 (k0_t1 : Fin k0_t1_loop.trips) (c0_i32_1181 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6171 : BitVec 32 := Scalar.addi v9 c0_i32_1181
  let v6172 : BitVec 32 := v6171
  let v6173 : Index := Scalar.indexCast v6172
  let c2048_1182 : Index := 2048#32
  ![v6173.toNat, 2048]
def k0_off82 (k0_t1 : Fin k0_t1_loop.trips) (c0_i32_1181 : BitVec 32) : Fin 2 → Nat :=
  let c64 : Index := 64#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6171 : BitVec 32 := Scalar.addi v9 c0_i32_1181
  let v6172 : BitVec 32 := v6171
  let v6176 : Index := Scalar.indexCast v6172
  ![64, v6176.toNat]
def k0_off83 (k0_t1 : Fin k0_t1_loop.trips) (c0_i32_1181 : BitVec 32) : Fin 2 → Nat :=
  let c65 : Index := 65#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6171 : BitVec 32 := Scalar.addi v9 c0_i32_1181
  let v6172 : BitVec 32 := v6171
  let v6222 : Index := Scalar.indexCast v6172
  ![65, v6222.toNat]
def k0_off84 (k0_t1 : Fin k0_t1_loop.trips) (c0_i32_1181 : BitVec 32) : Fin 2 → Nat :=
  let c66 : Index := 66#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6171 : BitVec 32 := Scalar.addi v9 c0_i32_1181
  let v6172 : BitVec 32 := v6171
  let v6268 : Index := Scalar.indexCast v6172
  ![66, v6268.toNat]
def k0_off85 (k0_t1 : Fin k0_t1_loop.trips) (c0_i32_1181 : BitVec 32) : Fin 2 → Nat :=
  let c67 : Index := 67#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6171 : BitVec 32 := Scalar.addi v9 c0_i32_1181
  let v6172 : BitVec 32 := v6171
  let v6314 : Index := Scalar.indexCast v6172
  ![67, v6314.toNat]
def k0_mult35 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_1215 : BitVec 32 := 128#32
  let v6361 : BitVec 32 := Scalar.addi v9 c128_i32_1215
  v6361
def k0_mult36 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_1255 : BitVec 32 := 0#32
  let v6556 : BitVec 32 := Scalar.addi v9 c0_i32_1255
  v6556
def k0_off86 (k0_t1 : Fin k0_t1_loop.trips) (c0_i32_1255 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6556 : BitVec 32 := Scalar.addi v9 c0_i32_1255
  let v6557 : BitVec 32 := v6556
  let v6558 : Index := Scalar.indexCast v6557
  let c2176 : Index := 2176#32
  ![v6558.toNat, 2176]
def k0_off87 (k0_t1 : Fin k0_t1_loop.trips) (c0_i32_1255 : BitVec 32) : Fin 2 → Nat :=
  let c68 : Index := 68#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6556 : BitVec 32 := Scalar.addi v9 c0_i32_1255
  let v6557 : BitVec 32 := v6556
  let v6561 : Index := Scalar.indexCast v6557
  ![68, v6561.toNat]
def k0_off88 (k0_t1 : Fin k0_t1_loop.trips) (c0_i32_1255 : BitVec 32) : Fin 2 → Nat :=
  let c69 : Index := 69#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6556 : BitVec 32 := Scalar.addi v9 c0_i32_1255
  let v6557 : BitVec 32 := v6556
  let v6607 : Index := Scalar.indexCast v6557
  ![69, v6607.toNat]
def k0_off89 (k0_t1 : Fin k0_t1_loop.trips) (c0_i32_1255 : BitVec 32) : Fin 2 → Nat :=
  let c70 : Index := 70#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6556 : BitVec 32 := Scalar.addi v9 c0_i32_1255
  let v6557 : BitVec 32 := v6556
  let v6653 : Index := Scalar.indexCast v6557
  ![70, v6653.toNat]
def k0_off90 (k0_t1 : Fin k0_t1_loop.trips) (c0_i32_1255 : BitVec 32) : Fin 2 → Nat :=
  let c71 : Index := 71#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6556 : BitVec 32 := Scalar.addi v9 c0_i32_1255
  let v6557 : BitVec 32 := v6556
  let v6699 : Index := Scalar.indexCast v6557
  ![71, v6699.toNat]
def k0_mult37 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_1288 : BitVec 32 := 128#32
  let v6746 : BitVec 32 := Scalar.addi v9 c128_i32_1288
  v6746
def k0_mult38 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_1328 : BitVec 32 := 0#32
  let v6941 : BitVec 32 := Scalar.addi v9 c0_i32_1328
  v6941
def k0_off91 (k0_t1 : Fin k0_t1_loop.trips) (c0_i32_1328 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6941 : BitVec 32 := Scalar.addi v9 c0_i32_1328
  let v6942 : BitVec 32 := v6941
  let v6943 : Index := Scalar.indexCast v6942
  let c2304_1329 : Index := 2304#32
  ![v6943.toNat, 2304]
def k0_off92 (k0_t1 : Fin k0_t1_loop.trips) (c0_i32_1328 : BitVec 32) : Fin 2 → Nat :=
  let c72 : Index := 72#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6941 : BitVec 32 := Scalar.addi v9 c0_i32_1328
  let v6942 : BitVec 32 := v6941
  let v6946 : Index := Scalar.indexCast v6942
  ![72, v6946.toNat]
def k0_off93 (k0_t1 : Fin k0_t1_loop.trips) (c0_i32_1328 : BitVec 32) : Fin 2 → Nat :=
  let c73 : Index := 73#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6941 : BitVec 32 := Scalar.addi v9 c0_i32_1328
  let v6942 : BitVec 32 := v6941
  let v6992 : Index := Scalar.indexCast v6942
  ![73, v6992.toNat]
def k0_off94 (k0_t1 : Fin k0_t1_loop.trips) (c0_i32_1328 : BitVec 32) : Fin 2 → Nat :=
  let c74 : Index := 74#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6941 : BitVec 32 := Scalar.addi v9 c0_i32_1328
  let v6942 : BitVec 32 := v6941
  let v7038 : Index := Scalar.indexCast v6942
  ![74, v7038.toNat]
def k0_off95 (k0_t1 : Fin k0_t1_loop.trips) (c0_i32_1328 : BitVec 32) : Fin 2 → Nat :=
  let c75 : Index := 75#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v6941 : BitVec 32 := Scalar.addi v9 c0_i32_1328
  let v6942 : BitVec 32 := v6941
  let v7084 : Index := Scalar.indexCast v6942
  ![75, v7084.toNat]
def k0_mult39 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_1362 : BitVec 32 := 128#32
  let v7131 : BitVec 32 := Scalar.addi v9 c128_i32_1362
  v7131
def k0_mult40 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_1402 : BitVec 32 := 0#32
  let v7326 : BitVec 32 := Scalar.addi v9 c0_i32_1402
  v7326
def k0_off96 (k0_t1 : Fin k0_t1_loop.trips) (c0_i32_1402 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v7326 : BitVec 32 := Scalar.addi v9 c0_i32_1402
  let v7327 : BitVec 32 := v7326
  let v7328 : Index := Scalar.indexCast v7327
  let c2432 : Index := 2432#32
  ![v7328.toNat, 2432]
def k0_off97 (k0_t1 : Fin k0_t1_loop.trips) (c0_i32_1402 : BitVec 32) : Fin 2 → Nat :=
  let c76 : Index := 76#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v7326 : BitVec 32 := Scalar.addi v9 c0_i32_1402
  let v7327 : BitVec 32 := v7326
  let v7331 : Index := Scalar.indexCast v7327
  ![76, v7331.toNat]
def k0_off98 (k0_t1 : Fin k0_t1_loop.trips) (c0_i32_1402 : BitVec 32) : Fin 2 → Nat :=
  let c77 : Index := 77#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v7326 : BitVec 32 := Scalar.addi v9 c0_i32_1402
  let v7327 : BitVec 32 := v7326
  let v7377 : Index := Scalar.indexCast v7327
  ![77, v7377.toNat]
def k0_off99 (k0_t1 : Fin k0_t1_loop.trips) (c0_i32_1402 : BitVec 32) : Fin 2 → Nat :=
  let c78 : Index := 78#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v7326 : BitVec 32 := Scalar.addi v9 c0_i32_1402
  let v7327 : BitVec 32 := v7326
  let v7423 : Index := Scalar.indexCast v7327
  ![78, v7423.toNat]
def k0_off100 (k0_t1 : Fin k0_t1_loop.trips) (c0_i32_1402 : BitVec 32) : Fin 2 → Nat :=
  let c79 : Index := 79#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v7326 : BitVec 32 := Scalar.addi v9 c0_i32_1402
  let v7327 : BitVec 32 := v7326
  let v7469 : Index := Scalar.indexCast v7327
  ![79, v7469.toNat]
def k0_mult41 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_1435 : BitVec 32 := 128#32
  let v7516 : BitVec 32 := Scalar.addi v9 c128_i32_1435
  v7516
def k0_mult42 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_1475 : BitVec 32 := 0#32
  let v7711 : BitVec 32 := Scalar.addi v9 c0_i32_1475
  v7711
def k0_off101 (k0_t1 : Fin k0_t1_loop.trips) (c0_i32_1475 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v7711 : BitVec 32 := Scalar.addi v9 c0_i32_1475
  let v7712 : BitVec 32 := v7711
  let v7713 : Index := Scalar.indexCast v7712
  let c2560_1476 : Index := 2560#32
  ![v7713.toNat, 2560]
def k0_off102 (k0_t1 : Fin k0_t1_loop.trips) (c0_i32_1475 : BitVec 32) : Fin 2 → Nat :=
  let c80 : Index := 80#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v7711 : BitVec 32 := Scalar.addi v9 c0_i32_1475
  let v7712 : BitVec 32 := v7711
  let v7716 : Index := Scalar.indexCast v7712
  ![80, v7716.toNat]
def k0_off103 (k0_t1 : Fin k0_t1_loop.trips) (c0_i32_1475 : BitVec 32) : Fin 2 → Nat :=
  let c81 : Index := 81#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v7711 : BitVec 32 := Scalar.addi v9 c0_i32_1475
  let v7712 : BitVec 32 := v7711
  let v7762 : Index := Scalar.indexCast v7712
  ![81, v7762.toNat]
def k0_off104 (k0_t1 : Fin k0_t1_loop.trips) (c0_i32_1475 : BitVec 32) : Fin 2 → Nat :=
  let c82 : Index := 82#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v7711 : BitVec 32 := Scalar.addi v9 c0_i32_1475
  let v7712 : BitVec 32 := v7711
  let v7808 : Index := Scalar.indexCast v7712
  ![82, v7808.toNat]
def k0_off105 (k0_t1 : Fin k0_t1_loop.trips) (c0_i32_1475 : BitVec 32) : Fin 2 → Nat :=
  let c83 : Index := 83#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v7711 : BitVec 32 := Scalar.addi v9 c0_i32_1475
  let v7712 : BitVec 32 := v7711
  let v7854 : Index := Scalar.indexCast v7712
  ![83, v7854.toNat]
def k0_mult43 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_1509 : BitVec 32 := 128#32
  let v7901 : BitVec 32 := Scalar.addi v9 c128_i32_1509
  v7901
def k0_mult44 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_1549 : BitVec 32 := 0#32
  let v8096 : BitVec 32 := Scalar.addi v9 c0_i32_1549
  v8096
def k0_off106 (k0_t1 : Fin k0_t1_loop.trips) (c0_i32_1549 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8096 : BitVec 32 := Scalar.addi v9 c0_i32_1549
  let v8097 : BitVec 32 := v8096
  let v8098 : Index := Scalar.indexCast v8097
  let c2688 : Index := 2688#32
  ![v8098.toNat, 2688]
def k0_off107 (k0_t1 : Fin k0_t1_loop.trips) (c0_i32_1549 : BitVec 32) : Fin 2 → Nat :=
  let c84 : Index := 84#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8096 : BitVec 32 := Scalar.addi v9 c0_i32_1549
  let v8097 : BitVec 32 := v8096
  let v8101 : Index := Scalar.indexCast v8097
  ![84, v8101.toNat]
def k0_off108 (k0_t1 : Fin k0_t1_loop.trips) (c0_i32_1549 : BitVec 32) : Fin 2 → Nat :=
  let c85 : Index := 85#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8096 : BitVec 32 := Scalar.addi v9 c0_i32_1549
  let v8097 : BitVec 32 := v8096
  let v8147 : Index := Scalar.indexCast v8097
  ![85, v8147.toNat]
def k0_off109 (k0_t1 : Fin k0_t1_loop.trips) (c0_i32_1549 : BitVec 32) : Fin 2 → Nat :=
  let c86 : Index := 86#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8096 : BitVec 32 := Scalar.addi v9 c0_i32_1549
  let v8097 : BitVec 32 := v8096
  let v8193 : Index := Scalar.indexCast v8097
  ![86, v8193.toNat]
def k0_off110 (k0_t1 : Fin k0_t1_loop.trips) (c0_i32_1549 : BitVec 32) : Fin 2 → Nat :=
  let c87 : Index := 87#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8096 : BitVec 32 := Scalar.addi v9 c0_i32_1549
  let v8097 : BitVec 32 := v8096
  let v8239 : Index := Scalar.indexCast v8097
  ![87, v8239.toNat]
def k0_mult45 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_1582 : BitVec 32 := 128#32
  let v8286 : BitVec 32 := Scalar.addi v9 c128_i32_1582
  v8286
def k0_mult46 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_1622 : BitVec 32 := 0#32
  let v8481 : BitVec 32 := Scalar.addi v9 c0_i32_1622
  v8481
def k0_off111 (k0_t1 : Fin k0_t1_loop.trips) (c0_i32_1622 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8481 : BitVec 32 := Scalar.addi v9 c0_i32_1622
  let v8482 : BitVec 32 := v8481
  let v8483 : Index := Scalar.indexCast v8482
  let c2816_1623 : Index := 2816#32
  ![v8483.toNat, 2816]
def k0_off112 (k0_t1 : Fin k0_t1_loop.trips) (c0_i32_1622 : BitVec 32) : Fin 2 → Nat :=
  let c88 : Index := 88#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8481 : BitVec 32 := Scalar.addi v9 c0_i32_1622
  let v8482 : BitVec 32 := v8481
  let v8486 : Index := Scalar.indexCast v8482
  ![88, v8486.toNat]
def k0_off113 (k0_t1 : Fin k0_t1_loop.trips) (c0_i32_1622 : BitVec 32) : Fin 2 → Nat :=
  let c89 : Index := 89#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8481 : BitVec 32 := Scalar.addi v9 c0_i32_1622
  let v8482 : BitVec 32 := v8481
  let v8532 : Index := Scalar.indexCast v8482
  ![89, v8532.toNat]
def k0_off114 (k0_t1 : Fin k0_t1_loop.trips) (c0_i32_1622 : BitVec 32) : Fin 2 → Nat :=
  let c90 : Index := 90#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8481 : BitVec 32 := Scalar.addi v9 c0_i32_1622
  let v8482 : BitVec 32 := v8481
  let v8578 : Index := Scalar.indexCast v8482
  ![90, v8578.toNat]
def k0_off115 (k0_t1 : Fin k0_t1_loop.trips) (c0_i32_1622 : BitVec 32) : Fin 2 → Nat :=
  let c91 : Index := 91#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8481 : BitVec 32 := Scalar.addi v9 c0_i32_1622
  let v8482 : BitVec 32 := v8481
  let v8624 : Index := Scalar.indexCast v8482
  ![91, v8624.toNat]
def k0_mult47 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_1656 : BitVec 32 := 128#32
  let v8671 : BitVec 32 := Scalar.addi v9 c128_i32_1656
  v8671
def k0_mult48 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c0_i32_1696 : BitVec 32 := 0#32
  let v8866 : BitVec 32 := Scalar.addi v9 c0_i32_1696
  v8866
def k0_off116 (k0_t1 : Fin k0_t1_loop.trips) (c0_i32_1696 : BitVec 32) : Fin 2 → Nat :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8866 : BitVec 32 := Scalar.addi v9 c0_i32_1696
  let v8867 : BitVec 32 := v8866
  let v8868 : Index := Scalar.indexCast v8867
  let c2944 : Index := 2944#32
  ![v8868.toNat, 2944]
def k0_off117 (k0_t1 : Fin k0_t1_loop.trips) (c0_i32_1696 : BitVec 32) : Fin 2 → Nat :=
  let c92 : Index := 92#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8866 : BitVec 32 := Scalar.addi v9 c0_i32_1696
  let v8867 : BitVec 32 := v8866
  let v8871 : Index := Scalar.indexCast v8867
  ![92, v8871.toNat]
def k0_off118 (k0_t1 : Fin k0_t1_loop.trips) (c0_i32_1696 : BitVec 32) : Fin 2 → Nat :=
  let c93 : Index := 93#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v8866 : BitVec 32 := Scalar.addi v9 c0_i32_1696
  let v8867 : BitVec 32 := v8866
  let v8917 : Index := Scalar.indexCast v8867
  ![93, v8917.toNat]
def k0_mult49 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let c128_i32_1713 : BitVec 32 := 128#32
  let v8964 : BitVec 32 := Scalar.addi v9 c128_i32_1713
  v8964
def k0_off119 (k0_t1 : Fin k0_t1_loop.trips) : Fin 2 → Nat :=
  let c0_1735 : Index := 0#32
  let c0_i32 : BitVec 32 := 0#32
  let c1_i32 : BitVec 32 := 1#32
  let arg7 : BitVec 32 := Scf.iv c0_i32 c1_i32 k0_t1
  let c256_i32 : BitVec 32 := 256#32
  let v8 : BitVec 32 := Scalar.muli arg7 c256_i32
  let v9 : BitVec 32 := v8
  let v9068 : Index := Scalar.indexCast v9
  ![0, v9068.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x6016 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3008 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x94 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S24x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S24x1x6016 : Shape := ⟨3, ![24, 1, 6016]⟩
abbrev S18048x3008 : Shape := ⟨2, ![18048, 3008]⟩
abbrev S18048x94 : Shape := ⟨2, ![18048, 94]⟩
abbrev S_ : Shape := ⟨0, ![]⟩
abbrev S18048x94x32 : Shape := ⟨3, ![18048, 94, 32]⟩
abbrev S18048x94x1 : Shape := ⟨3, ![18048, 94, 1]⟩
abbrev S24x1x3008 : Shape := ⟨3, ![24, 1, 3008]⟩
abbrev S24x1x18048 : Shape := ⟨3, ![24, 1, 18048]⟩

abbrev nBuf : Space → Nat
  | .hbm => 170
  | .vmem => 0
  | .smem => 0
  | _ => 0

abbrev hbmTy0_0 (i : Nat) : BufTy := match i % 128 with
  | 0 => ⟨S24x1x6016, .bf16⟩
  | 1 => ⟨S18048x3008, .i8⟩
  | 2 => ⟨S18048x94, .f32⟩
  | 3 => ⟨S18048x3008, .i32⟩
  | 4 => ⟨S_, .i32⟩
  | 5 => ⟨S18048x3008, .i32⟩
  | 6 => ⟨S18048x3008, .i32⟩
  | 7 => ⟨S_, .i32⟩
  | 8 => ⟨S18048x3008, .i32⟩
  | 9 => ⟨S18048x3008, .i32⟩
  | 10 => ⟨S_, .i32⟩
  | 11 => ⟨S18048x3008, .i32⟩
  | 12 => ⟨S18048x3008, .i32⟩
  | 13 => ⟨S_, .i32⟩
  | 14 => ⟨S18048x3008, .i32⟩
  | 15 => ⟨S18048x3008, .i1⟩
  | 16 => ⟨S_, .i32⟩
  | 17 => ⟨S18048x3008, .i32⟩
  | 18 => ⟨S18048x3008, .i32⟩
  | 19 => ⟨S_, .i32⟩
  | 20 => ⟨S18048x3008, .i32⟩
  | 21 => ⟨S18048x3008, .i1⟩
  | 22 => ⟨S_, .i32⟩
  | 23 => ⟨S18048x3008, .i32⟩
  | 24 => ⟨S18048x3008, .i32⟩
  | 25 => ⟨S_, .i32⟩
  | 26 => ⟨S18048x3008, .i32⟩
  | 27 => ⟨S18048x3008, .i1⟩
  | 28 => ⟨S_, .i32⟩
  | 29 => ⟨S18048x3008, .i32⟩
  | 30 => ⟨S18048x3008, .i32⟩
  | 31 => ⟨S_, .i32⟩
  | 32 => ⟨S18048x3008, .i32⟩
  | 33 => ⟨S18048x3008, .i1⟩
  | 34 => ⟨S_, .f32⟩
  | 35 => ⟨S_, .f32⟩
  | 36 => ⟨S18048x3008, .f32⟩
  | 37 => ⟨S18048x3008, .f32⟩
  | 38 => ⟨S18048x3008, .f32⟩
  | 39 => ⟨S_, .f32⟩
  | 40 => ⟨S_, .f32⟩
  | 41 => ⟨S18048x3008, .f32⟩
  | 42 => ⟨S18048x3008, .f32⟩
  | 43 => ⟨S18048x3008, .f32⟩
  | 44 => ⟨S_, .f32⟩
  | 45 => ⟨S_, .f32⟩
  | 46 => ⟨S18048x3008, .f32⟩
  | 47 => ⟨S18048x3008, .f32⟩
  | 48 => ⟨S18048x3008, .f32⟩
  | 49 => ⟨S_, .f32⟩
  | 50 => ⟨S_, .f32⟩
  | 51 => ⟨S18048x3008, .f32⟩
  | 52 => ⟨S18048x3008, .f32⟩
  | 53 => ⟨S18048x3008, .f32⟩
  | 54 => ⟨S_, .f32⟩
  | 55 => ⟨S_, .f32⟩
  | 56 => ⟨S18048x3008, .f32⟩
  | 57 => ⟨S18048x3008, .f32⟩
  | 58 => ⟨S18048x3008, .f32⟩
  | 59 => ⟨S_, .f32⟩
  | 60 => ⟨S_, .f32⟩
  | 61 => ⟨S18048x3008, .f32⟩
  | 62 => ⟨S18048x3008, .f32⟩
  | 63 => ⟨S18048x3008, .f32⟩
  | 64 => ⟨S_, .f32⟩
  | 65 => ⟨S_, .f32⟩
  | 66 => ⟨S18048x3008, .f32⟩
  | 67 => ⟨S18048x3008, .f32⟩
  | 68 => ⟨S18048x3008, .f32⟩
  | 69 => ⟨S_, .f32⟩
  | 70 => ⟨S_, .f32⟩
  | 71 => ⟨S18048x3008, .f32⟩
  | 72 => ⟨S18048x3008, .f32⟩
  | 73 => ⟨S18048x3008, .f32⟩
  | 74 => ⟨S18048x3008, .f32⟩
  | 75 => ⟨S18048x3008, .f32⟩
  | 76 => ⟨S18048x3008, .f32⟩
  | 77 => ⟨S18048x3008, .f32⟩
  | 78 => ⟨S18048x3008, .f32⟩
  | 79 => ⟨S18048x3008, .f32⟩
  | 80 => ⟨S18048x3008, .f32⟩
  | 81 => ⟨S18048x94x32, .f32⟩
  | 82 => ⟨S18048x94x1, .f32⟩
  | 83 => ⟨S18048x94x32, .f32⟩
  | 84 => ⟨S18048x94x32, .f32⟩
  | 85 => ⟨S18048x3008, .f32⟩
  | 86 => ⟨S18048x3008, .bf16⟩
  | 87 => ⟨S_, .i32⟩
  | 88 => ⟨S18048x3008, .i32⟩
  | 89 => ⟨S18048x3008, .i32⟩
  | 90 => ⟨S_, .i32⟩
  | 91 => ⟨S18048x3008, .i32⟩
  | 92 => ⟨S18048x3008, .i1⟩
  | 93 => ⟨S_, .i32⟩
  | 94 => ⟨S18048x3008, .i32⟩
  | 95 => ⟨S18048x3008, .i32⟩
  | 96 => ⟨S_, .i32⟩
  | 97 => ⟨S18048x3008, .i32⟩
  | 98 => ⟨S18048x3008, .i1⟩
  | 99 => ⟨S_, .i32⟩
  | 100 => ⟨S18048x3008, .i32⟩
  | 101 => ⟨S18048x3008, .i32⟩
  | 102 => ⟨S_, .i32⟩
  | 103 => ⟨S18048x3008, .i32⟩
  | 104 => ⟨S18048x3008, .i1⟩
  | 105 => ⟨S_, .i32⟩
  | 106 => ⟨S18048x3008, .i32⟩
  | 107 => ⟨S18048x3008, .i32⟩
  | 108 => ⟨S_, .i32⟩
  | 109 => ⟨S18048x3008, .i32⟩
  | 110 => ⟨S18048x3008, .i1⟩
  | 111 => ⟨S_, .f32⟩
  | 112 => ⟨S_, .f32⟩
  | 113 => ⟨S18048x3008, .f32⟩
  | 114 => ⟨S18048x3008, .f32⟩
  | 115 => ⟨S18048x3008, .f32⟩
  | 116 => ⟨S_, .f32⟩
  | 117 => ⟨S_, .f32⟩
  | 118 => ⟨S18048x3008, .f32⟩
  | 119 => ⟨S18048x3008, .f32⟩
  | 120 => ⟨S18048x3008, .f32⟩
  | 121 => ⟨S_, .f32⟩
  | 122 => ⟨S_, .f32⟩
  | 123 => ⟨S18048x3008, .f32⟩
  | 124 => ⟨S18048x3008, .f32⟩
  | 125 => ⟨S18048x3008, .f32⟩
  | 126 => ⟨S_, .f32⟩
  | 127 => ⟨S_, .f32⟩
  | _ => ⟨S24x1x6016, .bf16⟩

abbrev hbmTy0_1 (i : Nat) : BufTy := match i % 128 with
  | 0 => ⟨S18048x3008, .f32⟩
  | 1 => ⟨S18048x3008, .f32⟩
  | 2 => ⟨S18048x3008, .f32⟩
  | 3 => ⟨S_, .f32⟩
  | 4 => ⟨S_, .f32⟩
  | 5 => ⟨S18048x3008, .f32⟩
  | 6 => ⟨S18048x3008, .f32⟩
  | 7 => ⟨S18048x3008, .f32⟩
  | 8 => ⟨S_, .f32⟩
  | 9 => ⟨S_, .f32⟩
  | 10 => ⟨S18048x3008, .f32⟩
  | 11 => ⟨S18048x3008, .f32⟩
  | 12 => ⟨S18048x3008, .f32⟩
  | 13 => ⟨S_, .f32⟩
  | 14 => ⟨S_, .f32⟩
  | 15 => ⟨S18048x3008, .f32⟩
  | 16 => ⟨S18048x3008, .f32⟩
  | 17 => ⟨S18048x3008, .f32⟩
  | 18 => ⟨S_, .f32⟩
  | 19 => ⟨S_, .f32⟩
  | 20 => ⟨S18048x3008, .f32⟩
  | 21 => ⟨S18048x3008, .f32⟩
  | 22 => ⟨S18048x3008, .f32⟩
  | 23 => ⟨S18048x3008, .f32⟩
  | 24 => ⟨S18048x3008, .f32⟩
  | 25 => ⟨S18048x3008, .f32⟩
  | 26 => ⟨S18048x3008, .f32⟩
  | 27 => ⟨S18048x3008, .f32⟩
  | 28 => ⟨S18048x3008, .f32⟩
  | 29 => ⟨S18048x3008, .f32⟩
  | 30 => ⟨S18048x94x32, .f32⟩
  | 31 => ⟨S18048x94x1, .f32⟩
  | 32 => ⟨S18048x94x32, .f32⟩
  | 33 => ⟨S18048x94x32, .f32⟩
  | 34 => ⟨S18048x3008, .f32⟩
  | 35 => ⟨S18048x3008, .bf16⟩
  | 36 => ⟨S24x1x3008, .bf16⟩
  | 37 => ⟨S24x1x18048, .f32⟩
  | 38 => ⟨S24x1x3008, .bf16⟩
  | 39 => ⟨S24x1x18048, .f32⟩
  | 40 => ⟨S24x1x18048, .f32⟩
  | 41 => ⟨S24x1x18048, .bf16⟩
  | _ => ⟨S24x1x6016, .bf16⟩

abbrev hbmTy (i : Nat) : BufTy := match i / 128 with
  | 0 => hbmTy0_0 i
  | 1 => hbmTy0_1 i
  | _ => ⟨S24x1x6016, .bf16⟩

abbrev bufTy : (tb : Table) → Fin (tcTables nBuf tb) → BufTy
  | .hbm, ⟨i, _⟩ => hbmTy i
  | _, _ => ⟨S24x1x6016, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_c_6 : Ref sig .tc := ⟨.hbm, 25, rfl⟩
abbrev main_v15 : Ref sig .tc := ⟨.hbm, 26, rfl⟩
abbrev main_v16 : Ref sig .tc := ⟨.hbm, 27, rfl⟩
abbrev main_c_7 : Ref sig .tc := ⟨.hbm, 28, rfl⟩
abbrev main_v17 : Ref sig .tc := ⟨.hbm, 29, rfl⟩
abbrev main_v18 : Ref sig .tc := ⟨.hbm, 30, rfl⟩
abbrev main_c_8 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_cst_9 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_cst_10 : Ref sig .tc := ⟨.hbm, 39, rfl⟩
abbrev main_cst_11 : Ref sig .tc := ⟨.hbm, 40, rfl⟩
abbrev main_call1_v0 : Ref sig .tc := ⟨.hbm, 41, rfl⟩
abbrev main_call1_v1 : Ref sig .tc := ⟨.hbm, 42, rfl⟩
abbrev main_v22 : Ref sig .tc := ⟨.hbm, 43, rfl⟩
abbrev main_cst_12 : Ref sig .tc := ⟨.hbm, 44, rfl⟩
abbrev main_cst_13 : Ref sig .tc := ⟨.hbm, 45, rfl⟩
abbrev main_call2_v0 : Ref sig .tc := ⟨.hbm, 46, rfl⟩
abbrev main_call2_v1 : Ref sig .tc := ⟨.hbm, 47, rfl⟩
abbrev main_v23 : Ref sig .tc := ⟨.hbm, 48, rfl⟩
abbrev main_cst_14 : Ref sig .tc := ⟨.hbm, 49, rfl⟩
abbrev main_cst_15 : Ref sig .tc := ⟨.hbm, 50, rfl⟩
abbrev main_call3_v0 : Ref sig .tc := ⟨.hbm, 51, rfl⟩
abbrev main_call3_v1 : Ref sig .tc := ⟨.hbm, 52, rfl⟩
abbrev main_v24 : Ref sig .tc := ⟨.hbm, 53, rfl⟩
abbrev main_cst_16 : Ref sig .tc := ⟨.hbm, 54, rfl⟩
abbrev main_cst_17 : Ref sig .tc := ⟨.hbm, 55, rfl⟩
abbrev main_call4_v0 : Ref sig .tc := ⟨.hbm, 56, rfl⟩
abbrev main_call4_v1 : Ref sig .tc := ⟨.hbm, 57, rfl⟩
abbrev main_v25 : Ref sig .tc := ⟨.hbm, 58, rfl⟩
abbrev main_cst_18 : Ref sig .tc := ⟨.hbm, 59, rfl⟩
abbrev main_cst_19 : Ref sig .tc := ⟨.hbm, 60, rfl⟩
abbrev main_call5_v0 : Ref sig .tc := ⟨.hbm, 61, rfl⟩
abbrev main_call5_v1 : Ref sig .tc := ⟨.hbm, 62, rfl⟩
abbrev main_v26 : Ref sig .tc := ⟨.hbm, 63, rfl⟩
abbrev main_cst_20 : Ref sig .tc := ⟨.hbm, 64, rfl⟩
abbrev main_cst_21 : Ref sig .tc := ⟨.hbm, 65, rfl⟩
abbrev main_call6_v0 : Ref sig .tc := ⟨.hbm, 66, rfl⟩
abbrev main_call6_v1 : Ref sig .tc := ⟨.hbm, 67, rfl⟩
abbrev main_v27 : Ref sig .tc := ⟨.hbm, 68, rfl⟩
abbrev main_cst_22 : Ref sig .tc := ⟨.hbm, 69, rfl⟩
abbrev main_cst_23 : Ref sig .tc := ⟨.hbm, 70, rfl⟩
abbrev main_call7_v0 : Ref sig .tc := ⟨.hbm, 71, rfl⟩
abbrev main_call7_v1 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_24 : Ref sig .tc := ⟨.hbm, 87, rfl⟩
abbrev main_v42 : Ref sig .tc := ⟨.hbm, 88, rfl⟩
abbrev main_v43 : Ref sig .tc := ⟨.hbm, 89, rfl⟩
abbrev main_c_25 : Ref sig .tc := ⟨.hbm, 90, rfl⟩
abbrev main_v44 : Ref sig .tc := ⟨.hbm, 91, rfl⟩
abbrev main_v45 : Ref sig .tc := ⟨.hbm, 92, rfl⟩
abbrev main_c_26 : Ref sig .tc := ⟨.hbm, 93, rfl⟩
abbrev main_v46 : Ref sig .tc := ⟨.hbm, 94, rfl⟩
abbrev main_v47 : Ref sig .tc := ⟨.hbm, 95, rfl⟩
abbrev main_c_27 : Ref sig .tc := ⟨.hbm, 96, rfl⟩
abbrev main_v48 : Ref sig .tc := ⟨.hbm, 97, rfl⟩
abbrev main_v49 : Ref sig .tc := ⟨.hbm, 98, rfl⟩
abbrev main_c_28 : Ref sig .tc := ⟨.hbm, 99, rfl⟩
abbrev main_v50 : Ref sig .tc := ⟨.hbm, 100, rfl⟩
abbrev main_v51 : Ref sig .tc := ⟨.hbm, 101, rfl⟩
abbrev main_c_29 : Ref sig .tc := ⟨.hbm, 102, rfl⟩
abbrev main_v52 : Ref sig .tc := ⟨.hbm, 103, rfl⟩
abbrev main_v53 : Ref sig .tc := ⟨.hbm, 104, rfl⟩
abbrev main_c_30 : Ref sig .tc := ⟨.hbm, 105, rfl⟩
abbrev main_v54 : Ref sig .tc := ⟨.hbm, 106, rfl⟩
abbrev main_v55 : Ref sig .tc := ⟨.hbm, 107, rfl⟩
abbrev main_c_31 : Ref sig .tc := ⟨.hbm, 108, rfl⟩
abbrev main_v56 : Ref sig .tc := ⟨.hbm, 109, rfl⟩
abbrev main_v57 : Ref sig .tc := ⟨.hbm, 110, rfl⟩
abbrev main_cst_32 : Ref sig .tc := ⟨.hbm, 111, rfl⟩
abbrev main_cst_33 : Ref sig .tc := ⟨.hbm, 112, rfl⟩
abbrev main_call15_v0 : Ref sig .tc := ⟨.hbm, 113, rfl⟩
abbrev main_call15_v1 : Ref sig .tc := ⟨.hbm, 114, rfl⟩
abbrev main_v58 : Ref sig .tc := ⟨.hbm, 115, rfl⟩
abbrev main_cst_34 : Ref sig .tc := ⟨.hbm, 116, rfl⟩
abbrev main_cst_35 : Ref sig .tc := ⟨.hbm, 117, rfl⟩
abbrev main_call16_v0 : Ref sig .tc := ⟨.hbm, 118, rfl⟩
abbrev main_call16_v1 : Ref sig .tc := ⟨.hbm, 119, rfl⟩
abbrev main_v59 : Ref sig .tc := ⟨.hbm, 120, rfl⟩
abbrev main_cst_36 : Ref sig .tc := ⟨.hbm, 121, rfl⟩
abbrev main_cst_37 : Ref sig .tc := ⟨.hbm, 122, rfl⟩
abbrev main_call17_v0 : Ref sig .tc := ⟨.hbm, 123, rfl⟩
abbrev main_call17_v1 : Ref sig .tc := ⟨.hbm, 124, rfl⟩
abbrev main_v60 : Ref sig .tc := ⟨.hbm, 125, rfl⟩
abbrev main_cst_38 : Ref sig .tc := ⟨.hbm, 126, rfl⟩
abbrev main_cst_39 : Ref sig .tc := ⟨.hbm, 127, rfl⟩
abbrev main_call18_v0 : Ref sig .tc := ⟨.hbm, 128, rfl⟩
abbrev main_call18_v1 : Ref sig .tc := ⟨.hbm, 129, rfl⟩
abbrev main_v61 : Ref sig .tc := ⟨.hbm, 130, rfl⟩
abbrev main_cst_40 : Ref sig .tc := ⟨.hbm, 131, rfl⟩
abbrev main_cst_41 : Ref sig .tc := ⟨.hbm, 132, rfl⟩
abbrev main_call19_v0 : Ref sig .tc := ⟨.hbm, 133, rfl⟩
abbrev main_call19_v1 : Ref sig .tc := ⟨.hbm, 134, rfl⟩
abbrev main_v62 : Ref sig .tc := ⟨.hbm, 135, rfl⟩
abbrev main_cst_42 : Ref sig .tc := ⟨.hbm, 136, rfl⟩
abbrev main_cst_43 : Ref sig .tc := ⟨.hbm, 137, rfl⟩
abbrev main_call20_v0 : Ref sig .tc := ⟨.hbm, 138, rfl⟩
abbrev main_call20_v1 : Ref sig .tc := ⟨.hbm, 139, rfl⟩
abbrev main_v63 : Ref sig .tc := ⟨.hbm, 140, rfl⟩
abbrev main_cst_44 : Ref sig .tc := ⟨.hbm, 141, rfl⟩
abbrev main_cst_45 : Ref sig .tc := ⟨.hbm, 142, rfl⟩
abbrev main_call21_v0 : Ref sig .tc := ⟨.hbm, 143, rfl⟩
abbrev main_call21_v1 : Ref sig .tc := ⟨.hbm, 144, rfl⟩
abbrev main_v64 : Ref sig .tc := ⟨.hbm, 145, rfl⟩
abbrev main_cst_46 : Ref sig .tc := ⟨.hbm, 146, rfl⟩
abbrev main_cst_47 : Ref sig .tc := ⟨.hbm, 147, rfl⟩
abbrev main_call22_v0 : Ref sig .tc := ⟨.hbm, 148, rfl⟩
abbrev main_call22_v1 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩

abbrev nD : Nat := 1
abbrev τ : Topo := Topo.v7x

variable {F : FTy → Type} [FloatOps F]
-- ==== Proof.RunI.lean ====
/-
  The kernel body's run, at any float values.

  `kernelRun` executes one grid point's body on any staging memrefs: the table, the scale block and the code block are
  read, the scale block is stored transposed into the scratch, and the loop over the two subtiles writes the result
  block.  The pieces the loop writes are those the run finds.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]

local notation "𝕄" => MT nD τ sig Unit (Elt F) ℕ (UR sig nD τ) ℕ

/-- The kernel's variants: none. -/
abbrev 𝒱₀ : Variants := Variants.none

/-- The pieces the body writes into the result's staging memref, found by the run, with the proof that on whole memrefs
    holding `x1` … `x4`, the scratch at `f6` and the result's at anything, the body runs to the continuation holding the
    inputs as they were, the scratch at some contents, and the result's memref with those pieces written over it. -/
def kernelRun (c : Dev nD) (i : grid0.Coords) (M1 : Memref sig .tc .vmem S24x6016 .bf16) (h1 : M1.IsWhole)
    (M2 : Memref sig .tc .vmem S512x3008 .i8) (h2 : M2.IsWhole) (M3 : Memref sig .tc .vmem S512x94 .f32) (h3 : M3.IsWhole)
    (M4 : Memref sig .tc .vmem S16x128 .f32) (h4 : M4.IsWhole) (M5 : Memref sig .tc .vmem S24x512 .bf16) (h5 : M5.IsWhole)
    (M6 : Memref sig .tc .vmem S94x512 .f32) (h6 : M6.IsWhole)
    (x1 : Vec F S24x6016 .bf16) (x2 : Vec F S512x3008 .i8) (x3 : Vec F S512x94 .f32) (x4 : Vec F S16x128 .f32)
    (f6 : BufTy.Contents (Elt F) M6.view.ty) :
    { L : List (View.Piece (Elt F) S24x512 .bf16) //
      ∀ (E : Set ℕ) (K : PUnit → sProp 𝕄) (f5 : BufTy.Contents (Elt F) M5.view.ty),
        iprop(owns (c : Thread nD τ) M1 fullShare x1 ∗ owns (c : Thread nD τ) M2 fullShare x2
            ∗ owns (c : Thread nD τ) M3 fullShare x3 ∗ owns (c : Thread nD τ) M4 fullShare x4
            ∗ (M5.view.loc (c : Thread nD τ) ↦[M5.view.set]{fullShare} f5)
            ∗ (M6.view.loc (c : Thread nD τ) ↦[M6.view.set]{fullShare} f6)
            ∗ (iprop(owns (c : Thread nD τ) M1 fullShare x1 ∗ owns (c : Thread nD τ) M2 fullShare x2
                  ∗ owns (c : Thread nD τ) M3 fullShare x3 ∗ owns (c : Thread nD τ) M4 fullShare x4
                  ∗ (M5.view.loc (c : Thread nD τ) ↦[M5.view.set]{fullShare} M5.view.writes (Elt F) f5 L)
                  ∗ (∃ g6, M6.view.loc (c : Thread nD τ) ↦[M6.view.set]{fullShare} g6)) -∗ K ⟨⟩))
          ⊢ wp frame (wpE (defs₀ (F := F)) 𝒱₀ c none) E (cc0_nf4_linear i M1 h1 M2 h2 M3 h3 M4 h4 M5 h5 M6 h6) K } := by
  refine ⟨?_, fun E K f5 => ?run⟩
  case run =>
    unfold owns
    iintro ⟨⟨%f1, %hf1, H1⟩, ⟨%f2, %hf2, H2⟩, ⟨%f3, %hf3, H3⟩, ⟨%f4, %hf4, H4⟩, H5, H6, Hk⟩
    obtain rfl := h1.eq_unread hf1; obtain rfl := h2.eq_unread hf2
    obtain rfl := h3.eq_unread hf3; obtain rfl := h4.eq_unread hf4
    sl_unfold [cc0_nf4_linear]
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexact H5
    iexists _; iexact H6

end Cert.KernelIdeal.Hand

end
-- ==== Proof.FrameI.lean ====
/-
  The pipeline's data and the frame run.

  The two clipped input windows (the codes, the scales) arrive holding their block on the rows inside the array and
  anything past it; so the body's obligation is stated on the rows inside the array only.  The frame forgets what the
  result's buffer holds.
-/
module

public import proofs.«01_k».proof.Proof.RunI

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's staging contents after the body, given as a family: what the pipeline's data is stated at. -/
abbrev OutFam (F : FTy → Type) [FloatOps F] : Type := Dev nD → Fin cfg0.N → Vec F S24x512 .bf16

/-- The code block and the scale block at point `t`, filled past the array's end with zero words. -/
def wblk (c : Dev nD) (t : Fin cfg0.N) : Vec F S512x3008 .i8 :=
  win0_1.fill (grid0.coords t) (fun _ => (0#8 : BitVec 8)) (iblk m c 1 t)
def ablk (c : Dev nD) (t : Fin cfg0.N) : Vec F S512x94 .f32 :=
  win0_2.fill (grid0.coords t) (fun _ => Scalar.ofBits .f32 0#32) (iblk m c 2 t)

/-- The proof data: the arrays as the region finds them; after the body each input's buffer at its block, the result's
    at `out`; nothing owed; full shares. -/
def dats (out : OutFam F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => ablk m c t
    | ⟨3, _⟩ => iblk m c 3 t
    | ⟨4, _⟩ => out c t
  Φ _ := Pipeline.ΦA spec0 c
  q _ := fullShare
  owed _ := 0

variable (out : OutFam F)

theorem A_eq (c : Dev nD) (w : Fin cfg0.W) : (dats m out 0 c).A w = V m c (Pipeline.arrRef spec0 w) := rfl
theorem after0_0 (c : Dev nD) (t : Fin cfg0.N) : (dats m out 0 c).after 0 t = iblk m c 0 t := by dsimp only [dats]
theorem after0_1 (c : Dev nD) (t : Fin cfg0.N) : (dats m out 0 c).after 1 t = wblk m c t := by dsimp only [dats]
theorem after0_2 (c : Dev nD) (t : Fin cfg0.N) : (dats m out 0 c).after 2 t = ablk m c t := by dsimp only [dats]
theorem after0_3 (c : Dev nD) (t : Fin cfg0.N) : (dats m out 0 c).after 3 t = iblk m c 3 t := by dsimp only [dats]
theorem after0_4 (c : Dev nD) (t : Fin cfg0.N) : (dats m out 0 c).after 4 t = out c t := by dsimp only [dats]

/-- What the body finds in the inputs' buffers. -/
theorem before0_0 (c : Dev nD) (t : Fin cfg0.N) (d) : (dats m out 0 c).before 0 t d = iblk m c 0 t :=
  before0_0_of m (dats m out 0 c) (A_eq m out c 0) (after0_0 m out c) t d
theorem before0_3 (c : Dev nD) (t : Fin cfg0.N) (d) : (dats m out 0 c).before 3 t d = iblk m c 3 t :=
  before0_3_of m (dats m out 0 c) (A_eq m out c 3) (after0_3 m out c) t d
theorem before0_1 (c : Dev nD) (t : Fin cfg0.N) (d) :
    (dats m out 0 c).before 1 t d = win0_1.fill (grid0.coords t) d (iblk m c 1 t) := by
  unfold Dat.before; rw [if_pos (fetch0_1 t)]; rfl
theorem before0_2 (c : Dev nD) (t : Fin cfg0.N) (d) :
    (dats m out 0 c).before 2 t d = win0_2.fill (grid0.coords t) d (iblk m c 2 t) := by
  unfold Dat.before; rw [if_pos (fetch0_2 t)]; rfl

/-- The pieces the body writes at point `t`, on the inputs' buffers at `x1` … `x4` and the scratch at `f6`. -/
abbrev pcsAt (c : Dev nD) (t : Fin cfg0.N) (x1 : Vec F S24x6016 .bf16) (x2 : Vec F S512x3008 .i8) (x3 : Vec F S512x94 .f32)
    (x4 : Vec F S16x128 .f32) (f6 : Buf (Elt F) ((c : Thread nD τ).loc cc0_scratch0)) : List (View.Piece (Elt F) S24x512 .bf16) :=
  (kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (Memref.whole cc0_scratch0) (Memref.isWhole_whole _) x1 x2 x3 x4 f6).1

/-- The body's run at point `t` with the region's invariant threaded through: the scratch is taken from it and put back. -/
theorem point_run (c : Dev nD) (t : Fin cfg0.N) (x1 : Vec F S24x6016 .bf16) (x2 : Vec F S512x3008 .i8)
    (x3 : Vec F S512x94 .f32) (x4 : Vec F S16x128 .f32) (K : PUnit → sProp 𝕄) :
    iprop(Pipeline.ΦA spec0 c ∗ owns (c : Thread nD τ) (st0_0 t) fullShare x1 ∗ owns (c : Thread nD τ) (st0_1 t) fullShare x2
        ∗ owns (c : Thread nD τ) (st0_2 t) fullShare x3 ∗ owns (c : Thread nD τ) (st0_3 t) fullShare x4
        ∗ (∃ d, owns (c : Thread nD τ) (st0_4 t) fullShare d)
        ∗ (iprop(Pipeline.ΦA spec0 c ∗ owns (c : Thread nD τ) (st0_0 t) fullShare x1 ∗ owns (c : Thread nD τ) (st0_1 t) fullShare x2
            ∗ owns (c : Thread nD τ) (st0_2 t) fullShare x3 ∗ owns (c : Thread nD τ) (st0_3 t) fullShare x4
            ∗ (∃ f6 f5, owns (c : Thread nD τ) (st0_4 t) fullShare
                ((st0_4 t).view.read (Elt F) ((st0_4 t).view.writes (Elt F) f5 (pcsAt c t x1 x2 x3 x4 f6))))) -∗ K ⟨⟩))
      ⊢ wp frame (wpE (defs₀ (F := F)) 𝒱₀ c none) Set.univ (bodyAt0 (F := F) t) K := by
  unfold Pipeline.ΦA
  rw [scopedRest0_eq]
  iintro ⟨⟨⟨%f6, H6⟩, Hp⟩, H1, H2, H3, H4, ⟨%d5, H5⟩, Hk⟩
  unfold owns
  icases H5 with ⟨%f5, %hf5, H5⟩
  iapply ((kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (Memref.whole cc0_scratch0) (Memref.isWhole_whole _) x1 x2 x3 x4 f6).2 Set.univ K f5)
  unfold owns
  isplitl [H1]; · iexact H1
  isplitl [H2]; · iexact H2
  isplitl [H3]; · iexact H3
  isplitl [H4]; · iexact H4
  isplitl [H5]; · iexact H5
  isplitl [H6]
  · rw [show (Memref.whole cc0_scratch0 : Memref sig .tc .vmem S94x512 .f32).view.set = Finset.univ from View.set_whole cc0_scratch0]
    iexact H6
  iintro ⟨H1, H2, H3, H4, H5, ⟨%g6, H6⟩⟩
  iapply Hk
  isplitl [H6 Hp]
  · isplitl [H6]
    · rw [show (Memref.whole cc0_scratch0 : Memref sig .tc .vmem S94x512 .f32).view.set = Finset.univ from View.set_whole cc0_scratch0]
      iexists g6; iexact H6
    · iexact Hp
  isplitl [H1]; · iexact H1
  isplitl [H2]; · iexact H2
  isplitl [H3]; · iexact H3
  isplitl [H4]; · iexact H4
  iexists f6, f5, _
  isplitr
  · ipureintro; rfl
  iexact H5

/-- The windows the frame forgets: the result's. -/
def fgt : Fin 5 → Bool := fun w => decide (w = 4)

/-- The body obligation with the result's buffer forgotten. -/
theorem body_obligation_forget (c : Dev nD) : BodyObligationLoose (dats m out 0 c) (defs₀ (F := F)) 𝒱₀ () Set.univ fgt := fun t => by
  rw [bigSep_W0, bigSep_W0]
  sl_whnfR [defs₀, Defs.onTc]
  simp only [show fgt 0 = false from rfl, show fgt 1 = false from rfl, show fgt 2 = false from rfl, show fgt 3 = false from rfl,
    show fgt 4 = true from rfl]
  rw [show (dats m out 0 c).Φ t.succ = Pipeline.ΦA spec0 c from rfl, show (dats m out 0 c).Φ t.castSucc = Pipeline.ΦA spec0 c from rfl,
    show (dats m out 0 c).owesAt () t.succ = (dats m out 0 c).owesAt () t.castSucc from rfl, after0_0, after0_1, after0_2, after0_3]
  iintro ⟨HΦ, Ho, ⟨%d0, H0⟩, ⟨%d1, H1⟩, ⟨%d2, H2⟩, ⟨%d3, H3⟩, H4⟩
  rw [before0_0, before0_1, before0_2, before0_3]
  iapply (point_run c t (iblk m c 0 t) (win0_1.fill (grid0.coords t) d1 (iblk m c 1 t)) (win0_2.fill (grid0.coords t) d2 (iblk m c 2 t)) (iblk m c 3 t) _)
  isplitl [HΦ]; · iexact HΦ
  isplitl [H0]; · iexact H0
  isplitl [H1]; · iexact H1
  isplitl [H2]; · iexact H2
  isplitl [H3]; · iexact H3
  isplitl [H4]; · iexact H4
  iintro ⟨HΦ, H0, H1, H2, H3, ⟨%f6, %f5, H4⟩⟩
  isplitl [HΦ]; · iexact HΦ
  isplitl [Ho]; · iexact Ho
  isplitl [H0]; · iexact H0
  isplitl [H1]
  · iexists d1
    rw [show (cfg0.win 1).cut (cfg0.grid.coords t) (wblk m c t) = iblk m c 1 t from win0_1.cut_fill _ _ _]
    iexact H1
  isplitl [H2]
  · iexists d2
    rw [show (cfg0.win 2).cut (cfg0.grid.coords t) (ablk m c t) = iblk m c 2 t from win0_2.cut_fill _ _ _]
    iexact H2
  isplitl [H3]; · iexact H3
  iexists _; iexact H4

set_option backward.isDefEq.respectTransparency.types false in
/-- The frame: from any memory whose semaphore counters are zero, every weakly fair execution terminates with the
    arguments unchanged and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (dats m (fun _ _ _ => Scalar.ofBits .bf16 0#16)) (0 : Fin 1) launch0 defs₀ 𝒱₀ fgt {main_v6} m ρ main
    (hbody := body_obligation_forget m _)
    (hshare := fun c => (dats m _ 0 c).share_full fun _ => rfl) (howed := fun _ _ => rfl)
    (V₀ := V0 m) (opss := [hostOps1]) (hsub := sfx_sub) (hfresh := sfx_fresh) (hkeep := sfx_keeps)
    (hT := by
      intro ops hops op hop
      simp only [List.mem_cons, List.mem_nil_iff, _root_.or_false] at hops
      rcases hops with rfl
      simp only [hostOps1, List.mem_cons, List.mem_nil_iff, _root_.or_false] at hop
      rcases hop with rfl
      intro b hb
      simp only [StableHlo.reshape_writes, Finset.mem_singleton] at hb
      rw [Finset.mem_singleton]
      exact Proc.devRef_injective _ hb)
    (hmain := hmain m 𝒱₀) (hA := fun _ _ => rfl) (hΦ := fun _ _ => rfl)
    (Q' := _) (hQ' := fun r h => ⟨fun c => ⟨
      ((h.1 c).2 main_arg0 (by
        refine Finset.mem_sdiff.2 ⟨Pipeline.mem_restRefs_of main_arg0 (by decide) (by decide), by decide⟩)).trans (V_main_arg0 m c),
      (h.1.arr_in c 1 rfl).trans (V_main_arg1 m c), (h.1.arr_in c 2 rfl).trans (V_main_arg2 m c)⟩, h.2⟩)

end Cert.KernelIdeal.Hand

end
-- ==== Proof.RunK.lean ====
/-
  The kernel body's run, at any float values.

  `kernelRun` executes one grid point's body on any staging memrefs: the table, the scale block and the code block are
  read, the scale block is stored transposed into the scratch, and the loop over the two subtiles writes the result
  block.  The pieces the loop writes are those the run finds.
-/
module

public import proofs.«01_k».proof.Proof.Gen.Kernel.Frame
public import proofs.«01_k».proof.Proof.Gen.Kernel.Skeleton
public import proofs.«01_k».proof.Proof.Gen.Kernel.Loops
public import Idealize.ShloMosaic.Lib.Tactic

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]

local notation "𝕄" => MT nD τ sig Unit (Elt F) ℕ (UR sig nD τ) ℕ

/-- The kernel's variants: none. -/
abbrev 𝒱₀ : Variants := Variants.none

/-- The pieces the body writes into the result's staging memref, found by the run, with the proof that on whole memrefs
    holding `x1` … `x4`, the scratch at `f6` and the result's at anything, the body runs to the continuation holding the
    inputs as they were, the scratch at some contents, and the result's memref with those pieces written over it. -/
def kernelRun (c : Dev nD) (i : grid0.Coords) (M1 : Memref sig .tc .vmem S24x6016 .bf16) (h1 : M1.IsWhole)
    (M2 : Memref sig .tc .vmem S512x3008 .i8) (h2 : M2.IsWhole) (M3 : Memref sig .tc .vmem S512x94 .f32) (h3 : M3.IsWhole)
    (M4 : Memref sig .tc .vmem S16x128 .f32) (h4 : M4.IsWhole) (M5 : Memref sig .tc .vmem S24x512 .bf16) (h5 : M5.IsWhole)
    (M6 : Memref sig .tc .vmem S94x512 .f32) (h6 : M6.IsWhole)
    (x1 : Vec F S24x6016 .bf16) (x2 : Vec F S512x3008 .i8) (x3 : Vec F S512x94 .f32) (x4 : Vec F S16x128 .f32)
    (f6 : BufTy.Contents (Elt F) M6.view.ty) :
    { L : List (View.Piece (Elt F) S24x512 .bf16) //
      ∀ (E : Set ℕ) (K : PUnit → sProp 𝕄) (f5 : BufTy.Contents (Elt F) M5.view.ty),
        iprop(owns (c : Thread nD τ) M1 fullShare x1 ∗ owns (c : Thread nD τ) M2 fullShare x2
            ∗ owns (c : Thread nD τ) M3 fullShare x3 ∗ owns (c : Thread nD τ) M4 fullShare x4
            ∗ (M5.view.loc (c : Thread nD τ) ↦[M5.view.set]{fullShare} f5)
            ∗ (M6.view.loc (c : Thread nD τ) ↦[M6.view.set]{fullShare} f6)
            ∗ (iprop(owns (c : Thread nD τ) M1 fullShare x1 ∗ owns (c : Thread nD τ) M2 fullShare x2
                  ∗ owns (c : Thread nD τ) M3 fullShare x3 ∗ owns (c : Thread nD τ) M4 fullShare x4
                  ∗ (M5.view.loc (c : Thread nD τ) ↦[M5.view.set]{fullShare} M5.view.writes (Elt F) f5 L)
                  ∗ (∃ g6, M6.view.loc (c : Thread nD τ) ↦[M6.view.set]{fullShare} g6)) -∗ K ⟨⟩))
          ⊢ wp frame (wpE (defs₀ (F := F)) 𝒱₀ c none) E (cc0_nf4_linear i M1 h1 M2 h2 M3 h3 M4 h4 M5 h5 M6 h6) K } := by
  refine ⟨?_, fun E K f5 => ?run⟩
  case run =>
    unfold owns
    iintro ⟨⟨%f1, %hf1, H1⟩, ⟨%f2, %hf2, H2⟩, ⟨%f3, %hf3, H3⟩, ⟨%f4, %hf4, H4⟩, H5, H6, Hk⟩
    obtain rfl := h1.eq_unread hf1; obtain rfl := h2.eq_unread hf2
    obtain rfl := h3.eq_unread hf3; obtain rfl := h4.eq_unread hf4
    sl_unfold [cc0_nf4_linear]
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexact H5
    iexists _; iexact H6

end Cert.Kernel.Hand

end
-- ==== Proof.FrameK.lean ====
/-
  The pipeline's data and the frame run.

  The two clipped input windows (the codes, the scales) arrive holding their block on the rows inside the array and
  anything past it; so the body's obligation is stated on the rows inside the array only.  The frame forgets what the
  result's buffer holds.
-/
module

public import proofs.«01_k».proof.Proof.RunK

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's staging contents after the body, given as a family: what the pipeline's data is stated at. -/
abbrev OutFam (F : FTy → Type) [FloatOps F] : Type := Dev nD → Fin cfg0.N → Vec F S24x512 .bf16

/-- The code block and the scale block at point `t`, filled past the array's end with zero words. -/
def wblk (c : Dev nD) (t : Fin cfg0.N) : Vec F S512x3008 .i8 :=
  win0_1.fill (grid0.coords t) (fun _ => (0#8 : BitVec 8)) (iblk m c 1 t)
def ablk (c : Dev nD) (t : Fin cfg0.N) : Vec F S512x94 .f32 :=
  win0_2.fill (grid0.coords t) (fun _ => Scalar.ofBits .f32 0#32) (iblk m c 2 t)

/-- The proof data: the arrays as the region finds them; after the body each input's buffer at its block, the result's
    at `out`; nothing owed; full shares. -/
def dats (out : OutFam F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => ablk m c t
    | ⟨3, _⟩ => iblk m c 3 t
    | ⟨4, _⟩ => out c t
  Φ _ := Pipeline.ΦA spec0 c
  q _ := fullShare
  owed _ := 0

variable (out : OutFam F)

theorem A_eq (c : Dev nD) (w : Fin cfg0.W) : (dats m out 0 c).A w = V m c (Pipeline.arrRef spec0 w) := rfl
theorem after0_0 (c : Dev nD) (t : Fin cfg0.N) : (dats m out 0 c).after 0 t = iblk m c 0 t := by dsimp only [dats]
theorem after0_1 (c : Dev nD) (t : Fin cfg0.N) : (dats m out 0 c).after 1 t = wblk m c t := by dsimp only [dats]
theorem after0_2 (c : Dev nD) (t : Fin cfg0.N) : (dats m out 0 c).after 2 t = ablk m c t := by dsimp only [dats]
theorem after0_3 (c : Dev nD) (t : Fin cfg0.N) : (dats m out 0 c).after 3 t = iblk m c 3 t := by dsimp only [dats]
theorem after0_4 (c : Dev nD) (t : Fin cfg0.N) : (dats m out 0 c).after 4 t = out c t := by dsimp only [dats]

/-- What the body finds in the inputs' buffers. -/
theorem before0_0 (c : Dev nD) (t : Fin cfg0.N) (d) : (dats m out 0 c).before 0 t d = iblk m c 0 t :=
  before0_0_of m (dats m out 0 c) (A_eq m out c 0) (after0_0 m out c) t d
theorem before0_3 (c : Dev nD) (t : Fin cfg0.N) (d) : (dats m out 0 c).before 3 t d = iblk m c 3 t :=
  before0_3_of m (dats m out 0 c) (A_eq m out c 3) (after0_3 m out c) t d
theorem before0_1 (c : Dev nD) (t : Fin cfg0.N) (d) :
    (dats m out 0 c).before 1 t d = win0_1.fill (grid0.coords t) d (iblk m c 1 t) := by
  unfold Dat.before; rw [if_pos (fetch0_1 t)]; rfl
theorem before0_2 (c : Dev nD) (t : Fin cfg0.N) (d) :
    (dats m out 0 c).before 2 t d = win0_2.fill (grid0.coords t) d (iblk m c 2 t) := by
  unfold Dat.before; rw [if_pos (fetch0_2 t)]; rfl

/-- The pieces the body writes at point `t`, on the inputs' buffers at `x1` … `x4` and the scratch at `f6`. -/
abbrev pcsAt (c : Dev nD) (t : Fin cfg0.N) (x1 : Vec F S24x6016 .bf16) (x2 : Vec F S512x3008 .i8) (x3 : Vec F S512x94 .f32)
    (x4 : Vec F S16x128 .f32) (f6 : Buf (Elt F) ((c : Thread nD τ).loc cc0_scratch0)) : List (View.Piece (Elt F) S24x512 .bf16) :=
  (kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (Memref.whole cc0_scratch0) (Memref.isWhole_whole _) x1 x2 x3 x4 f6).1

/-- The body's run at point `t` with the region's invariant threaded through: the scratch is taken from it and put back. -/
theorem point_run (c : Dev nD) (t : Fin cfg0.N) (x1 : Vec F S24x6016 .bf16) (x2 : Vec F S512x3008 .i8)
    (x3 : Vec F S512x94 .f32) (x4 : Vec F S16x128 .f32) (K : PUnit → sProp 𝕄) :
    iprop(Pipeline.ΦA spec0 c ∗ owns (c : Thread nD τ) (st0_0 t) fullShare x1 ∗ owns (c : Thread nD τ) (st0_1 t) fullShare x2
        ∗ owns (c : Thread nD τ) (st0_2 t) fullShare x3 ∗ owns (c : Thread nD τ) (st0_3 t) fullShare x4
        ∗ (∃ d, owns (c : Thread nD τ) (st0_4 t) fullShare d)
        ∗ (iprop(Pipeline.ΦA spec0 c ∗ owns (c : Thread nD τ) (st0_0 t) fullShare x1 ∗ owns (c : Thread nD τ) (st0_1 t) fullShare x2
            ∗ owns (c : Thread nD τ) (st0_2 t) fullShare x3 ∗ owns (c : Thread nD τ) (st0_3 t) fullShare x4
            ∗ (∃ f6 f5, owns (c : Thread nD τ) (st0_4 t) fullShare
                ((st0_4 t).view.read (Elt F) ((st0_4 t).view.writes (Elt F) f5 (pcsAt c t x1 x2 x3 x4 f6))))) -∗ K ⟨⟩))
      ⊢ wp frame (wpE (defs₀ (F := F)) 𝒱₀ c none) Set.univ (bodyAt0 (F := F) t) K := by
  unfold Pipeline.ΦA
  rw [scopedRest0_eq]
  iintro ⟨⟨⟨%f6, H6⟩, Hp⟩, H1, H2, H3, H4, ⟨%d5, H5⟩, Hk⟩
  unfold owns
  icases H5 with ⟨%f5, %hf5, H5⟩
  iapply ((kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (Memref.whole cc0_scratch0) (Memref.isWhole_whole _) x1 x2 x3 x4 f6).2 Set.univ K f5)
  unfold owns
  isplitl [H1]; · iexact H1
  isplitl [H2]; · iexact H2
  isplitl [H3]; · iexact H3
  isplitl [H4]; · iexact H4
  isplitl [H5]; · iexact H5
  isplitl [H6]
  · rw [show (Memref.whole cc0_scratch0 : Memref sig .tc .vmem S94x512 .f32).view.set = Finset.univ from View.set_whole cc0_scratch0]
    iexact H6
  iintro ⟨H1, H2, H3, H4, H5, ⟨%g6, H6⟩⟩
  iapply Hk
  isplitl [H6 Hp]
  · isplitl [H6]
    · rw [show (Memref.whole cc0_scratch0 : Memref sig .tc .vmem S94x512 .f32).view.set = Finset.univ from View.set_whole cc0_scratch0]
      iexists g6; iexact H6
    · iexact Hp
  isplitl [H1]; · iexact H1
  isplitl [H2]; · iexact H2
  isplitl [H3]; · iexact H3
  isplitl [H4]; · iexact H4
  iexists f6, f5, _
  isplitr
  · ipureintro; rfl
  iexact H5

/-- The windows the frame forgets: the result's. -/
def fgt : Fin 5 → Bool := fun w => decide (w = 4)

/-- The body obligation with the result's buffer forgotten. -/
theorem body_obligation_forget (c : Dev nD) : BodyObligationLoose (dats m out 0 c) (defs₀ (F := F)) 𝒱₀ () Set.univ fgt := fun t => by
  rw [bigSep_W0, bigSep_W0]
  sl_whnfR [defs₀, Defs.onTc]
  simp only [show fgt 0 = false from rfl, show fgt 1 = false from rfl, show fgt 2 = false from rfl, show fgt 3 = false from rfl,
    show fgt 4 = true from rfl]
  rw [show (dats m out 0 c).Φ t.succ = Pipeline.ΦA spec0 c from rfl, show (dats m out 0 c).Φ t.castSucc = Pipeline.ΦA spec0 c from rfl,
    show (dats m out 0 c).owesAt () t.succ = (dats m out 0 c).owesAt () t.castSucc from rfl, after0_0, after0_1, after0_2, after0_3]
  iintro ⟨HΦ, Ho, ⟨%d0, H0⟩, ⟨%d1, H1⟩, ⟨%d2, H2⟩, ⟨%d3, H3⟩, H4⟩
  rw [before0_0, before0_1, before0_2, before0_3]
  iapply (point_run c t (iblk m c 0 t) (win0_1.fill (grid0.coords t) d1 (iblk m c 1 t)) (win0_2.fill (grid0.coords t) d2 (iblk m c 2 t)) (iblk m c 3 t) _)
  isplitl [HΦ]; · iexact HΦ
  isplitl [H0]; · iexact H0
  isplitl [H1]; · iexact H1
  isplitl [H2]; · iexact H2
  isplitl [H3]; · iexact H3
  isplitl [H4]; · iexact H4
  iintro ⟨HΦ, H0, H1, H2, H3, ⟨%f6, %f5, H4⟩⟩
  isplitl [HΦ]; · iexact HΦ
  isplitl [Ho]; · iexact Ho
  isplitl [H0]; · iexact H0
  isplitl [H1]
  · iexists d1
    rw [show (cfg0.win 1).cut (cfg0.grid.coords t) (wblk m c t) = iblk m c 1 t from win0_1.cut_fill _ _ _]
    iexact H1
  isplitl [H2]
  · iexists d2
    rw [show (cfg0.win 2).cut (cfg0.grid.coords t) (ablk m c t) = iblk m c 2 t from win0_2.cut_fill _ _ _]
    iexact H2
  isplitl [H3]; · iexact H3
  iexists _; iexact H4

set_option backward.isDefEq.respectTransparency.types false in
/-- The frame: from any memory whose semaphore counters are zero, every weakly fair execution terminates with the
    arguments unchanged and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (dats m (fun _ _ _ => Scalar.ofBits .bf16 0#16)) (0 : Fin 1) launch0 defs₀ 𝒱₀ fgt {main_v6} m ρ main
    (hbody := body_obligation_forget m _)
    (hshare := fun c => (dats m _ 0 c).share_full fun _ => rfl) (howed := fun _ _ => rfl)
    (V₀ := V0 m) (opss := [hostOps1]) (hsub := sfx_sub) (hfresh := sfx_fresh) (hkeep := sfx_keeps)
    (hT := by
      intro ops hops op hop
      simp only [List.mem_cons, List.mem_nil_iff, _root_.or_false] at hops
      rcases hops with rfl
      simp only [hostOps1, List.mem_cons, List.mem_nil_iff, _root_.or_false] at hop
      rcases hop with rfl
      intro b hb
      simp only [StableHlo.reshape_writes, Finset.mem_singleton] at hb
      rw [Finset.mem_singleton]
      exact Proc.devRef_injective _ hb)
    (hmain := hmain m 𝒱₀) (hA := fun _ _ => rfl) (hΦ := fun _ _ => rfl)
    (Q' := _) (hQ' := fun r h => ⟨fun c => ⟨
      ((h.1 c).2 main_arg0 (by
        refine Finset.mem_sdiff.2 ⟨Pipeline.mem_restRefs_of main_arg0 (by decide) (by decide), by decide⟩)).trans (V_main_arg0 m c),
      (h.1.arr_in c 1 rfl).trans (V_main_arg1 m c), (h.1.arr_in c 2 rfl).trans (V_main_arg2 m c)⟩, h.2⟩)

end Cert.Kernel.Hand

end
-- ==== Proof.Block.lean ====
/-
  The arithmetic of one trip of the kernel's loop, as plain functions.

  A trip makes one 24 × 256 tile of the result.  `dq` makes the 64 × 128 weights one scale group of 128 output columns
  stands for, `wt` lays the groups of a chunk of 128 bytes out as a 256 × 256 matrix, `acc` adds up the products of
  the chunks, and `tile` is the rounded sum, with the last half-width chunk added.
-/
module

public import proofs.«01_k».proof.Proof.Gen.KernelIdeal
public import Idealize.ShloMosaic.Lib.VecWindow

@[expose] public section

noncomputable section

namespace Cert.KernelIdeal.Hand

open Cert.KernelIdeal Cert.KernelIdeal.Gen
open Idealize.ShloMosaic Idealize.SL.Sem

variable {F : FTy → Type} [FloatOps F]

/-- The table's sixteen values times the scale of each column, rounded. -/
def products (tab : FVec F S16x128 .f32) (sc : Vec F S1x128 .f32) : FVec F S16x128 .bf16 :=
  truncf .bf16 (mulf tab (broadcastTo S16x128 sc broadcasts_S1x128_S16x128)) bitsLt_bf16_f32

/-- The low four bits of every byte, doubled: four bytes at a time. -/
def codesLo (u : IVec S32x128 8) : IVec S32x128 8 :=
  bitcast S32x128 8 (andi (shli (bitcast S8x128 32 u bitcasts_S32x128_w8_S8x128_w32) (broadcast S8x128 1#32))
    (broadcast S8x128 505290270#32)) bitcasts_S8x128_w32_S32x128_w8

/-- The high four bits of every byte, doubled: four bytes at a time. -/
def codesHi (u : IVec S32x128 8) : IVec S32x128 8 :=
  bitcast S32x128 8 (andi (shrsi (bitcast S8x128 32 u bitcasts_S32x128_w8_S8x128_w32) (broadcast S8x128 3#32))
    (broadcast S8x128 505290270#32)) bitcasts_S8x128_w32_S32x128_w8

/-- Sixteen rows of doubled codes, from row `o`, looked up in the sixteen rows of products. -/
def look (p : FVec F S16x128 .bf16) (c : IVec S32x128 8) (o : Fin 2 → ℕ) (ho : S32x128.Slices o S16x128) : FVec F S16x128 .bf16 :=
  dynamicGather 0 p (shapeCast S16x128 (shapeCast S16x128x1
    (shrsi (extsi 32 (extractStridedSlice S16x128 o c ho) natLt_8_32) (broadcast S16x128 1#32))
    shapeCasts_S16x128_S16x128x1) shapeCasts_S16x128x1_S16x128)

/-- The 64 weights of one scale group: the low halves of its 32 bytes, then the high halves. -/
def dq (tab : FVec F S16x128 .f32) (u : IVec S32x128 8) (sc : Vec F S1x128 .f32) : FVec F S64x128 .bf16 :=
  concatenate S64x128 0
    [⟨S16x128, look (products tab sc) (codesLo u) ![0, 0] slices_S32x128_o0_0_S16x128⟩,
     ⟨S16x128, look (products tab sc) (codesLo u) ![16, 0] slices_S32x128_o16_0_S16x128⟩,
     ⟨S16x128, look (products tab sc) (codesHi u) ![0, 0] slices_S32x128_o0_0_S16x128⟩,
     ⟨S16x128, look (products tab sc) (codesHi u) ![16, 0] slices_S32x128_o16_0_S16x128⟩]
    concatenates_S16x128_S16x128_S16x128_S16x128_S64x128_d0

/-- The weights of 128 output columns for 128 bytes each: four scale groups. -/
def cols (tab : FVec F S16x128 .f32) (w : Vec F S128x128 .i8) (sc : Fin 4 → Vec F S1x128 .f32) : FVec F S256x128 .bf16 :=
  concatenate S256x128 0
    [⟨S64x128, dq tab (extractStridedSlice S32x128 ![0, 0] (transpose S128x128 [1, 0] w transposes_S128x128_p1_0_S128x128)
        slices_S128x128_o0_0_S32x128) (sc 0)⟩,
     ⟨S64x128, dq tab (extractStridedSlice S32x128 ![32, 0] (transpose S128x128 [1, 0] w transposes_S128x128_p1_0_S128x128)
        slices_S128x128_o32_0_S32x128) (sc 1)⟩,
     ⟨S64x128, dq tab (extractStridedSlice S32x128 ![64, 0] (transpose S128x128 [1, 0] w transposes_S128x128_p1_0_S128x128)
        slices_S128x128_o64_0_S32x128) (sc 2)⟩,
     ⟨S64x128, dq tab (extractStridedSlice S32x128 ![96, 0] (transpose S128x128 [1, 0] w transposes_S128x128_p1_0_S128x128)
        slices_S128x128_o96_0_S32x128) (sc 3)⟩]
    concatenates_S64x128_S64x128_S64x128_S64x128_S256x128_d0

/-- The weights of 128 output columns for the last 64 bytes: two scale groups. -/
def colsTail (tab : FVec F S16x128 .f32) (w : Vec F S128x64 .i8) (sc : Fin 2 → Vec F S1x128 .f32) : FVec F S128x128 .bf16 :=
  concatenate S128x128 0
    [⟨S64x128, dq tab (extractStridedSlice S32x128 ![0, 0] (transpose S64x128 [1, 0] w transposes_S128x64_p1_0_S64x128)
        slices_S64x128_o0_0_S32x128) (sc 0)⟩,
     ⟨S64x128, dq tab (extractStridedSlice S32x128 ![32, 0] (transpose S64x128 [1, 0] w transposes_S128x64_p1_0_S64x128)
        slices_S64x128_o32_0_S32x128) (sc 1)⟩]
    concatenates_S64x128_S64x128_S128x128_d0

/-- The blocks a trip reads: of chunk `n`, the codes of its `h`-th block of 128 columns and the 256 columns of the left
    operand; of scale group `g`, the scales of its `h`-th block of columns; and the codes and columns of the half chunk at the end. -/
structure Reads (F : FTy → Type) where
  w : Fin 23 → Fin 2 → Vec F S128x128 .i8
  wTail : Fin 2 → Vec F S128x64 .i8
  sc : Fin 94 → Fin 2 → Vec F S1x128 .f32
  x : Fin 23 → Vec F S24x256 .bf16
  xTail : Vec F S24x128 .bf16

/-- The weights of chunk `n` for the trip's 256 columns. -/
def wt (tab : FVec F S16x128 .f32) (r : Reads F) (n : Fin 23) : FVec F S256x256 .bf16 :=
  concatenate S256x256 1
    [⟨S256x128, cols tab (r.w n 0) (fun b => r.sc ⟨4 * n.val + b.val, by omega⟩ 0)⟩,
     ⟨S256x128, cols tab (r.w n 1) (fun b => r.sc ⟨4 * n.val + b.val, by omega⟩ 1)⟩]
    concatenates_S256x128_S256x128_S256x256_d1

/-- The weights of the last half-width chunk for the trip's 256 columns. -/
def wtTail (tab : FVec F S16x128 .f32) (r : Reads F) : FVec F S128x256 .bf16 :=
  concatenate S128x256 1
    [⟨S128x128, colsTail tab (r.wTail 0) (fun b => r.sc ⟨92 + b.val, by omega⟩ 0)⟩,
     ⟨S128x128, colsTail tab (r.wTail 1) (fun b => r.sc ⟨92 + b.val, by omega⟩ 1)⟩]
    concatenates_S128x128_S128x128_S128x256_d1

/-- The product of one chunk. -/
def chunk (x : Vec F S24x256 .bf16) (w : FVec F S256x256 .bf16) : FVec F S24x256 .f32 :=
  matmul dot_S24x256_S256x256_S24x256_1_0_0_1_n_n none (shapeCast S24x256 x shapeCasts_S24x256_S24x256) w (constant S24x256 .f32 0#32)

/-- The product of the last half-width chunk. -/
def chunkTail (x : Vec F S24x128 .bf16) (w : FVec F S128x256 .bf16) : FVec F S24x256 .f32 :=
  matmul dot_S24x128_S128x256_S24x256_1_0_0_1_n_n none (shapeCast S24x128 x shapeCasts_S24x128_S24x128) w (constant S24x256 .f32 0#32)

/-- The sum of the first `n` chunks' products. -/
def acc (tab : FVec F S16x128 .f32) (r : Reads F) : ℕ → FVec F S24x256 .f32
  | 0 => broadcast S24x256 (Scalar.ofBits .f32 0#32)
  | n + 1 => if h : n < 23 then addf (acc tab r n) (chunk (r.x ⟨n, h⟩) (wt tab r ⟨n, h⟩)) else acc tab r n

/-- The tile a trip stores. -/
def tile (tab : FVec F S16x128 .f32) (r : Reads F) : FVec F S24x256 .bf16 :=
  truncf .bf16 (addf (acc tab r 23) (chunkTail r.xTail (wtTail tab r))) bitsLt_bf16_f32

end Cert.KernelIdeal.Hand

end
-- ==== Proof.Nibble.lean ====
/-
  The two four-bit codes of a byte, as the kernel takes them out of words of four bytes.

  `codesLo_apply` and `codesHi_apply` say what byte the kernel's shift and mask of a whole word leave in each of the word's
  four places; `code_lo` and `code_hi` that the row number the kernel makes of it is the byte's low or high code.
-/
module

public import proofs.«01_k».proof.Proof.Block
public import Idealize.ShloMosaic.Lib.BitcastPair
public import Idealize.ShloMosaic.Lib.Pointwise.Tactic
public import Mathlib.Tactic.IntervalCases

@[expose] public section

noncomputable section

namespace Cert.KernelIdeal.Hand

open Cert.KernelIdeal Cert.KernelIdeal.Gen
open Idealize.ShloMosaic Idealize.SL.Sem

/-- Bit `p` of the mask is bit `p % 8` of 30. -/
theorem mask_bit : ∀ p : Fin 32, (505290270#32).getLsbD p.val = (30#8).getLsbD (p.val % 8) := by decide

/-- A byte of a word is at the word's row and the byte's place in it. -/
theorem word_src (h : S32x128.Bitcasts 8 S8x128 32) (a : Fin 8) (l : Fin 128) (p : Fin 32) (P : ℕ) (hP : P = p.val) (hp) :
    h.srcIdx (ix2 a l) P hp = ix2 p l := by
  subst hP
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

theorem byte_src (h : S8x128.Bitcasts 32 S32x128 8) (a : Fin 32) (l : Fin 128) (p : Fin 8) (P : ℕ) (hP : P = p.val) (hp) :
    h.srcIdx (ix2 a l) P hp = ix2 p l := by
  subst hP
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

/-- Bit `q` of the word in row `a` is bit `q % 8` of the byte in row `4 a + q / 8`. -/
theorem word_bit (u : IVec S32x128 8) (a : Fin 8) (l : Fin 128) (q : ℕ) (hq : q < 32) :
    (bitcast S8x128 32 u bitcasts_S32x128_w8_S8x128_w32 (ix2 a l)).getLsbD q
      = (u (ix2 ⟨4 * a.val + q / 8, by omega⟩ l)).getLsbD (q % 8) := by
  rw [bitcast_getLsbD _ _ _ q hq (by decide)]
  have hr : S8x128.row (ix2 a l) = a.val := rfl
  rw [word_src _ a l ⟨4 * a.val + q / 8, by omega⟩ _ (by rw [hr]; show (a.val * 32 + q) / 8 = 4 * a.val + q / 8; omega), hr]
  congr 1; omega

/-- Bit `i` of the byte in row `r` is bit `8 (r % 4) + i` of the word in row `r / 4`. -/
theorem byte_bit (w : IVec S8x128 32) (r : Fin 32) (l : Fin 128) (i : ℕ) (hi : i < 8) :
    (bitcast S32x128 8 w bitcasts_S8x128_w32_S32x128_w8 (ix2 r l)).getLsbD i
      = (w (ix2 ⟨r.val / 4, by omega⟩ l)).getLsbD (8 * (r.val % 4) + i) := by
  rw [bitcast_getLsbD _ _ _ i hi (by decide)]
  have hr : S32x128.row (ix2 r l) = r.val := rfl
  rw [byte_src _ r l ⟨r.val / 4, by omega⟩ _ (by rw [hr]; show (r.val * 8 + i) / 32 = r.val / 4; omega), hr]
  congr 1; omega

/-- The low code's byte: the byte doubled, masked by 30. -/
theorem codesLo_apply (u : IVec S32x128 8) (r : Fin 32) (l : Fin 128) : codesLo u (ix2 r l) = (u (ix2 r l) <<< 1) &&& 30#8 := by
  apply BitVec.eq_of_getLsbD_eq
  intro i hi
  unfold codesLo
  rw [byte_bit _ r l i hi]
  show (IntOp.andi (IntOp.shli .vector _ 1#32) 505290270#32).getLsbD _ = _
  unfold IntOp.andi IntOp.shli
  rw [if_pos (by decide), BitVec.getLsbD_and, BitVec.getLsbD_and, mask_bit ⟨8 * (r.val % 4) + i, by omega⟩]
  show ((bitcast S8x128 32 u _ _ <<< (1 : ℕ)).getLsbD _ && (30#8).getLsbD ((8 * (r.val % 4) + i) % 8)) = _
  rw [show (8 * (r.val % 4) + i) % 8 = i by omega, BitVec.getLsbD_shiftLeft, BitVec.getLsbD_shiftLeft]
  by_cases h0 : i = 0
  · subst h0; simp
  · rw [word_bit _ _ _ _ (by omega)]
    have e1 : (8 * (r.val % 4) + i - 1) % 8 = i - 1 := by omega
    have e2 : (⟨4 * (r.val / 4) + (8 * (r.val % 4) + i - 1) / 8, by omega⟩ : Fin 32) = r := Fin.ext (by show 4 * (r.val / 4) + (8 * (r.val % 4) + i - 1) / 8 = r.val; omega)
    simp only [e1, e2]
    simp [hi, h0, show 8 * (r.val % 4) + i < 32 by omega]

/-- The high code's byte: the byte shifted down by three, masked by 30. -/
theorem codesHi_apply (u : IVec S32x128 8) (r : Fin 32) (l : Fin 128) : codesHi u (ix2 r l) = (u (ix2 r l) >>> 3) &&& 30#8 := by
  apply BitVec.eq_of_getLsbD_eq
  intro i hi
  unfold codesHi
  rw [byte_bit _ r l i hi]
  show (IntOp.andi (IntOp.shrsi .vector _ 3#32) 505290270#32).getLsbD _ = _
  unfold IntOp.andi IntOp.shrsi
  rw [if_pos (by decide), BitVec.getLsbD_and, BitVec.getLsbD_and, mask_bit ⟨8 * (r.val % 4) + i, by omega⟩]
  show ((BitVec.sshiftRight (bitcast S8x128 32 u _ _) 3).getLsbD _ && (30#8).getLsbD ((8 * (r.val % 4) + i) % 8)) = _
  rw [show (8 * (r.val % 4) + i) % 8 = i by omega, BitVec.getLsbD_sshiftRight, BitVec.getLsbD_ushiftRight]
  by_cases h5 : i < 5
  · rw [word_bit _ _ _ _ (by omega)]
    have e1 : (3 + (8 * (r.val % 4) + i)) % 8 = 3 + i := by omega
    have e2 : (⟨4 * (r.val / 4) + (3 + (8 * (r.val % 4) + i)) / 8, by omega⟩ : Fin 32) = r := Fin.ext (by show 4 * (r.val / 4) + (3 + (8 * (r.val % 4) + i)) / 8 = r.val; omega)
    simp only [e1, e2]
    simp [show ¬ 32 ≤ 8 * (r.val % 4) + i by omega, show 3 + (8 * (r.val % 4) + i) < 32 by omega]
  · have : (30#8).getLsbD i = false := by
      have : i = 5 ∨ i = 6 ∨ i = 7 := by omega
      rcases this with h | h | h <;> subst h <;> decide
    simp [this]

/-- The code of row `r` of a scale group's 64 in its byte: the low four bits for the first 32 rows, the high four for the others. -/
def code (b : BitVec 8) (r : ℕ) : Fin 16 :=
  if r < 32 then ⟨b.toNat % 16, Nat.mod_lt _ (by decide)⟩ else ⟨b.toNat / 16, by have := b.isLt; omega⟩

/-- The row number the kernel makes of the low code's byte. -/
theorem code_lo : ∀ b : BitVec 8, (IntOp.shrsi .vector (((b <<< 1) &&& 30#8).signExtend 32) 1#32).toNat % 16 = b.toNat % 16 := by
  decide +kernel

/-- The row number the kernel makes of the high code's byte. -/
theorem code_hi : ∀ b : BitVec 8, (IntOp.shrsi .vector (((b >>> 3) &&& 30#8).signExtend 32) 1#32).toNat % 16 = b.toNat / 16 := by
  decide +kernel

end Cert.KernelIdeal.Hand

end
-- ==== Proof.BlockAt.lean ====
/-
  One trip's tile, read at an index over the extended reals.

  A weight of a scale group is the table's value at the byte's code times the group's scale (`dq_apply`); a tile's element is the
  sum, over the 6016 rows of the weights, of the left operand's element times the weight (`tile_apply`).
-/
module

public import proofs.«01_k».proof.Proof.Nibble
public import Idealize.ShloMosaic.Lib.Pointwise

@[expose] public section

noncomputable section

namespace Cert.KernelIdeal.Hand

open Cert.KernelIdeal Cert.KernelIdeal.Gen
open Idealize.ShloMosaic Idealize.SL.Sem

variable (tab : FVec Ideal S16x128 .f32)

/-- A product: the table's value times the column's scale. -/
theorem products_apply (sc : Vec Ideal S1x128 .f32) (t : Fin 16) (l : Fin 128) :
    products tab sc (ix2 t l) = tab (ix2 t l) * sc (ix2 0 l) := by
  unfold products
  pointwise

/-- A looked-up row: the product at the row's code. -/
theorem look_apply (p : FVec Ideal S16x128 .bf16) (c : IVec S32x128 8) (o : ℕ) (ho : S32x128.Slices ![o, 0] S16x128)
    (r : Fin 16) (l : Fin 128) (R : Fin 32) (hR : R.val = o + r.val) (n : Fin 16)
    (hn : (IntOp.shrsi .vector ((c (ix2 R l)).signExtend 32) 1#32).toNat % 16 = n.val) :
    look p c ![o, 0] ho (ix2 r l) = p (ix2 n l) := by
  have hr : o + r.val < 32 := hR ▸ R.isLt
  obtain rfl : R = ⟨o + r.val, hr⟩ := Fin.ext hR
  unfold look
  pointwise
  congr 2
  exact Fin.ext hn

/-- A low row looks up the product at its byte's low code. -/
theorem look_lo (p : FVec Ideal S16x128 .bf16) (u : IVec S32x128 8) (o : ℕ) (ho : S32x128.Slices ![o, 0] S16x128)
    (r : Fin 16) (l : Fin 128) (R : Fin 64) (hR : R.val = o + r.val) (h : R.val < 32) :
    look p (codesLo u) ![o, 0] ho (ix2 r l) = p (ix2 (code (u (ix2 ⟨R.val % 32, Nat.mod_lt _ (by decide)⟩ l)) R.val) l) := by
  refine look_apply p _ o ho r l ⟨R.val % 32, Nat.mod_lt _ (by decide)⟩ ((Nat.mod_eq_of_lt h).trans hR) _ ?_
  rw [codesLo_apply, code_lo]
  unfold code
  rw [if_pos h]

/-- A high row looks up the product at its byte's high code. -/
theorem look_hi (p : FVec Ideal S16x128 .bf16) (u : IVec S32x128 8) (o : ℕ) (ho : S32x128.Slices ![o, 0] S16x128)
    (r : Fin 16) (l : Fin 128) (R : Fin 64) (hR : R.val = 32 + o + r.val) :
    look p (codesHi u) ![o, 0] ho (ix2 r l) = p (ix2 (code (u (ix2 ⟨R.val % 32, Nat.mod_lt _ (by decide)⟩ l)) R.val) l) := by
  refine look_apply p _ o ho r l ⟨R.val % 32, Nat.mod_lt _ (by decide)⟩ (by show R.val % 32 = o + r.val; omega) _ ?_
  rw [codesHi_apply, code_hi]
  unfold code
  rw [if_neg (by omega)]

/-- A weight: the table's value at the code in the byte, times the scale. -/
theorem dq_apply (u : IVec S32x128 8) (sc : Vec Ideal S1x128 .f32) (r : Fin 64) (l : Fin 128) :
    dq tab u sc (ix2 r l) = tab (ix2 (code (u (ix2 ⟨r.val % 32, Nat.mod_lt _ (by decide)⟩ l)) r.val) l) * sc (ix2 0 l) := by
  have hr := r.isLt
  rw [← products_apply]
  unfold dq
  pointwise
  by_cases h1 : r.val < 16
  · rw [dif_pos h1]
    exact look_lo _ u 0 _ ⟨r.val, h1⟩ l r (Nat.zero_add _).symm (by omega)
  rw [dif_neg h1]
  by_cases h2 : r.val - 16 < 16
  · rw [dif_pos h2]
    exact look_lo _ u 16 _ ⟨r.val - 16, h2⟩ l r (by show r.val = 16 + (r.val - 16); omega) (by omega)
  rw [dif_neg h2]
  by_cases h3 : r.val - 16 - 16 < 16
  · rw [dif_pos h3]
    exact look_hi _ u 0 _ ⟨r.val - 16 - 16, h3⟩ l r (by show r.val = 32 + 0 + (r.val - 16 - 16); omega)
  rw [dif_neg h3]
  exact look_hi _ u 16 _ ⟨r.val - 16 - 16 - 16, by omega⟩ l r (by show r.val = 32 + 16 + (r.val - 16 - 16 - 16); omega)

/-- A scale group of a chunk's block of 128 columns: the weights of its 32 bytes, with the block transposed. -/
theorem group_apply (w : Vec Ideal S128x128 .i8) (o : ℕ) (ho : S128x128.Slices ![o, 0] S32x128) (sc : Vec Ideal S1x128 .f32)
    (r : Fin 64) (l : Fin 128) (R : Fin 128) (hR : R.val = o + r.val % 32) :
    dq tab (extractStridedSlice S32x128 ![o, 0] (transpose S128x128 [1, 0] w transposes_S128x128_p1_0_S128x128) ho) sc (ix2 r l)
      = tab (ix2 (code (w (ix2 l R)) r.val) l) * sc (ix2 0 l) := by
  have hr : o + r.val % 32 < 128 := hR ▸ R.isLt
  obtain rfl : R = ⟨o + r.val % 32, hr⟩ := Fin.ext hR
  rw [dq_apply]
  pointwise

/-- A weight of a chunk's block of 128 columns. -/
theorem cols_apply (w : Vec Ideal S128x128 .i8) (sc : Fin 4 → Vec Ideal S1x128 .f32) (r : Fin 256) (l : Fin 128) :
    cols tab w sc (ix2 r l) = tab (ix2 (code (w (ix2 l ⟨32 * (r.val / 64) + r.val % 32, by omega⟩)) (r.val % 64)) l)
      * sc ⟨r.val / 64, by omega⟩ (ix2 0 l) := by
  have hr := r.isLt
  unfold cols
  pointwise
  have key (g : Fin 4) (o : ℕ) (ho : S128x128.Slices ![o, 0] S32x128) (r' : Fin 64) (hg : o = 32 * g.val)
      (hr' : r.val = 64 * g.val + r'.val) :
      dq tab (extractStridedSlice S32x128 ![o, 0] (transpose S128x128 [1, 0] w transposes_S128x128_p1_0_S128x128) ho) (sc g)
        (ix2 r' l) = tab (ix2 (code (w (ix2 l ⟨32 * (r.val / 64) + r.val % 32, by omega⟩)) (r.val % 64)) l)
      * sc ⟨r.val / 64, by omega⟩ (ix2 0 l) := by
    have h1 : r.val % 64 = r'.val := by omega
    have h2 : (⟨r.val / 64, by omega⟩ : Fin 4) = g := Fin.ext (by show r.val / 64 = g.val; omega)
    rw [group_apply tab w o ho (sc g) r' l ⟨32 * (r.val / 64) + r.val % 32, by omega⟩
      (by show 32 * (r.val / 64) + r.val % 32 = o + r'.val % 32; omega), h1, h2]
  by_cases h1 : r.val < 64
  · rw [dif_pos h1]
    exact key 0 0 _ ⟨r.val, h1⟩ rfl (by show r.val = 64 * 0 + r.val; omega)
  rw [dif_neg h1]
  by_cases h2 : r.val - 64 < 64
  · rw [dif_pos h2]
    exact key 1 32 _ ⟨r.val - 64, h2⟩ rfl (by show r.val = 64 * 1 + (r.val - 64); omega)
  rw [dif_neg h2]
  by_cases h3 : r.val - 64 - 64 < 64
  · rw [dif_pos h3]
    exact key 2 64 _ ⟨r.val - 64 - 64, h3⟩ rfl (by show r.val = 64 * 2 + (r.val - 64 - 64); omega)
  rw [dif_neg h3]
  exact key 3 96 _ ⟨r.val - 64 - 64 - 64, by omega⟩ rfl (by show r.val = 64 * 3 + (r.val - 64 - 64 - 64); omega)

/-- A scale group of the half chunk's block of 128 columns. -/
theorem groupTail_apply (w : Vec Ideal S128x64 .i8) (o : ℕ) (ho : S64x128.Slices ![o, 0] S32x128) (sc : Vec Ideal S1x128 .f32)
    (r : Fin 64) (l : Fin 128) (R : Fin 64) (hR : R.val = o + r.val % 32) :
    dq tab (extractStridedSlice S32x128 ![o, 0] (transpose S64x128 [1, 0] w transposes_S128x64_p1_0_S64x128) ho) sc (ix2 r l)
      = tab (ix2 (code (w (ix2 l R)) r.val) l) * sc (ix2 0 l) := by
  have hr : o + r.val % 32 < 64 := hR ▸ R.isLt
  obtain rfl : R = ⟨o + r.val % 32, hr⟩ := Fin.ext hR
  rw [dq_apply]
  pointwise

/-- A weight of the half chunk's block of 128 columns. -/
theorem colsTail_apply (w : Vec Ideal S128x64 .i8) (sc : Fin 2 → Vec Ideal S1x128 .f32) (r : Fin 128) (l : Fin 128) :
    colsTail tab w sc (ix2 r l) = tab (ix2 (code (w (ix2 l ⟨32 * (r.val / 64) + r.val % 32, by omega⟩)) (r.val % 64)) l)
      * sc ⟨r.val / 64, by omega⟩ (ix2 0 l) := by
  have hr := r.isLt
  unfold colsTail
  pointwise
  have key (g : Fin 2) (o : ℕ) (ho : S64x128.Slices ![o, 0] S32x128) (r' : Fin 64) (hg : o = 32 * g.val)
      (hr' : r.val = 64 * g.val + r'.val) :
      dq tab (extractStridedSlice S32x128 ![o, 0] (transpose S64x128 [1, 0] w transposes_S128x64_p1_0_S64x128) ho) (sc g)
        (ix2 r' l) = tab (ix2 (code (w (ix2 l ⟨32 * (r.val / 64) + r.val % 32, by omega⟩)) (r.val % 64)) l)
      * sc ⟨r.val / 64, by omega⟩ (ix2 0 l) := by
    have h1 : r.val % 64 = r'.val := by omega
    have h2 : (⟨r.val / 64, by omega⟩ : Fin 2) = g := Fin.ext (by show r.val / 64 = g.val; omega)
    rw [groupTail_apply tab w o ho (sc g) r' l ⟨32 * (r.val / 64) + r.val % 32, by omega⟩
      (by show 32 * (r.val / 64) + r.val % 32 = o + r'.val % 32; omega), h1, h2]
  by_cases h1 : r.val < 64
  · rw [dif_pos h1]
    exact key 0 0 _ ⟨r.val, h1⟩ rfl (by show r.val = 64 * 0 + r.val; omega)
  rw [dif_neg h1]
  exact key 1 32 _ ⟨r.val - 64, by omega⟩ rfl (by show r.val = 64 * 1 + (r.val - 64); omega)

/-- A product of a chunk. -/
theorem chunk_apply (x : Vec Ideal S24x256 .bf16) (w : FVec Ideal S256x256 .bf16) (b : Fin 24) (q : Fin 256) :
    chunk x w (ix2 b q) = ∑ r : Fin 256, x (ix2 b r) * w (ix2 r q) := by
  unfold chunk
  pointwise

/-- A product of the half chunk. -/
theorem chunkTail_apply (x : Vec Ideal S24x128 .bf16) (w : FVec Ideal S128x256 .bf16) (b : Fin 24) (q : Fin 256) :
    chunkTail x w (ix2 b q) = ∑ r : Fin 128, x (ix2 b r) * w (ix2 r q) := by
  unfold chunkTail
  pointwise

/-- The half a column of a trip lies in. -/
def half (q : Fin 256) : Fin 2 := ⟨q.val / 128, by omega⟩

/-- The place of a column within its half. -/
def lane (q : Fin 256) : Fin 128 := ⟨q.val % 128, by omega⟩

/-- A weight of a chunk. -/
theorem wt_apply (r : Reads Ideal) (n : Fin 23) (k q : Fin 256) :
    wt tab r n (ix2 k q) = tab (ix2 (code (r.w n (half q) (ix2 (lane q) ⟨32 * (k.val / 64) + k.val % 32, by omega⟩)) (k.val % 64)) (lane q))
      * r.sc ⟨4 * n.val + k.val / 64, by omega⟩ (half q) (ix2 0 (lane q)) := by
  have hq := q.isLt
  unfold wt
  pointwise
  by_cases h : q.val < 128
  · rw [dif_pos h, cols_apply]
    have h1 : half q = 0 := Fin.ext (Nat.div_eq_of_lt h)
    have h2 : lane q = ⟨q.val, h⟩ := Fin.ext (Nat.mod_eq_of_lt h)
    rw [h1, h2]
  · rw [dif_neg h, cols_apply]
    have h1 : half q = 1 := Fin.ext (by show q.val / 128 = 1; omega)
    have h2 : lane q = ⟨q.val - 128, by omega⟩ := Fin.ext (by show q.val % 128 = q.val - 128; omega)
    rw [h1, h2]

/-- A weight of the half chunk. -/
theorem wtTail_apply (r : Reads Ideal) (k : Fin 128) (q : Fin 256) :
    wtTail tab r (ix2 k q) = tab (ix2 (code (r.wTail (half q) (ix2 (lane q) ⟨32 * (k.val / 64) + k.val % 32, by omega⟩)) (k.val % 64)) (lane q))
      * r.sc ⟨92 + k.val / 64, by omega⟩ (half q) (ix2 0 (lane q)) := by
  have hq := q.isLt
  unfold wtTail
  pointwise
  by_cases h : q.val < 128
  · rw [dif_pos h, colsTail_apply]
    have h1 : half q = 0 := Fin.ext (Nat.div_eq_of_lt h)
    have h2 : lane q = ⟨q.val, h⟩ := Fin.ext (Nat.mod_eq_of_lt h)
    rw [h1, h2]
  · rw [dif_neg h, colsTail_apply]
    have h1 : half q = 1 := Fin.ext (by show q.val / 128 = 1; omega)
    have h2 : lane q = ⟨q.val - 128, by omega⟩ := Fin.ext (by show q.val % 128 = q.val - 128; omega)
    rw [h1, h2]

/-- If a function on the naturals gives every term of the chunks, the first `n` chunks give the sum of its first `256 n` values. -/
theorem acc_apply (r : Reads Ideal) (b : Fin 24) (q : Fin 256) (f : ℕ → EReal)
    (hf : ∀ (n : Fin 23) (k : Fin 256), r.x n (ix2 b k) * wt tab r n (ix2 k q) = f (256 * n.val + k.val)) (n : ℕ) (hn : n ≤ 23) :
    acc tab r n (ix2 b q) = ∑ K ∈ Finset.range (256 * n), f K := by
  induction n with
  | zero =>
    show broadcast S24x256 (Scalar.ofBits .f32 0#32) (ix2 b q) = _
    pointwise
    simp
  | succ n ih =>
    have h : n < 23 := hn
    rw [acc, dif_pos h, Nat.mul_add, Finset.sum_range_add, ← ih (by omega)]
    show acc tab r n (ix2 b q) + chunk _ _ (ix2 b q) = _
    rw [chunk_apply, Finset.sum_range]
    exact congrArg _ (Finset.sum_congr rfl fun k _ => hf ⟨n, h⟩ k)

/-- The tile's element is the sum over the 6016 rows of weights. -/
theorem tile_apply (r : Reads Ideal) (b : Fin 24) (q : Fin 256) (f : ℕ → EReal)
    (hf : ∀ (n : Fin 23) (k : Fin 256), r.x n (ix2 b k) * wt tab r n (ix2 k q) = f (256 * n.val + k.val))
    (hT : ∀ k : Fin 128, r.xTail (ix2 b k) * wtTail tab r (ix2 k q) = f (5888 + k.val)) :
    tile tab r (ix2 b q) = ∑ K ∈ Finset.range 6016, f K := by
  have h : acc tab r 23 (ix2 b q) + chunkTail r.xTail (wtTail tab r) (ix2 b q) = ∑ K ∈ Finset.range (5888 + 128), f K := by
    rw [acc_apply tab r b q f hf 23 le_rfl, chunkTail_apply, Finset.sum_range_add]
    exact congrArg _ ((Finset.sum_congr rfl fun k _ => hT k).trans (Finset.sum_range fun k => f (5888 + k)).symm)
  exact h

end Cert.KernelIdeal.Hand

end
-- ==== Proof.Trip.lean ====
/-
  What one trip of the loop stores.

  The offsets of the trip's loads are tabled once (`offW`, `offS`) and their values proved (`offW_eq`, `offS_eq`); then
  `trip_pieces` says that the one piece a trip writes is `tile` (Proof/Block.lean) of the blocks it reads.
-/
module

public import proofs.«01_k».proof.Proof.Block
public import proofs.«01_k».proof.Proof.Gen.KernelIdeal.Loops

@[expose] public section

set_option maxRecDepth 65536

noncomputable section

namespace Cert.KernelIdeal.Hand

open Cert.KernelIdeal Cert.KernelIdeal.Gen
open Idealize.ShloMosaic Idealize.SL.Sem

variable {F : FTy → Type} [FloatOps F]

/-- The offsets of the loads of the codes, chunk by chunk. -/
def offW : Fin 23 → Fin k0_t1_loop.trips → BitVec 32 → Fin 2 → ℕ :=
  ![k0_off1, k0_off6, k0_off11, k0_off16, k0_off21, k0_off26, k0_off31, k0_off36, k0_off41, k0_off46, k0_off51, k0_off56, k0_off61,
    k0_off66, k0_off71, k0_off76, k0_off81, k0_off86, k0_off91, k0_off96, k0_off101, k0_off106, k0_off111]

/-- The offsets of the loads of the scales, group by group. -/
def offS : Fin 94 → Fin k0_t1_loop.trips → BitVec 32 → Fin 2 → ℕ :=
  ![k0_off2, k0_off3, k0_off4, k0_off5, k0_off7, k0_off8, k0_off9, k0_off10, k0_off12, k0_off13, k0_off14, k0_off15, k0_off17, k0_off18,
    k0_off19, k0_off20, k0_off22, k0_off23, k0_off24, k0_off25, k0_off27, k0_off28, k0_off29, k0_off30, k0_off32, k0_off33, k0_off34,
    k0_off35, k0_off37, k0_off38, k0_off39, k0_off40, k0_off42, k0_off43, k0_off44, k0_off45, k0_off47, k0_off48, k0_off49, k0_off50,
    k0_off52, k0_off53, k0_off54, k0_off55, k0_off57, k0_off58, k0_off59, k0_off60, k0_off62, k0_off63, k0_off64, k0_off65, k0_off67,
    k0_off68, k0_off69, k0_off70, k0_off72, k0_off73, k0_off74, k0_off75, k0_off77, k0_off78, k0_off79, k0_off80, k0_off82, k0_off83,
    k0_off84, k0_off85, k0_off87, k0_off88, k0_off89, k0_off90, k0_off92, k0_off93, k0_off94, k0_off95, k0_off97, k0_off98, k0_off99,
    k0_off100, k0_off102, k0_off103, k0_off104, k0_off105, k0_off107, k0_off108, k0_off109, k0_off110, k0_off112, k0_off113, k0_off114,
    k0_off115, k0_off117, k0_off118]

/-- The first column of a trip's `h`-th block of 128, within the trip. -/
def colOf : Fin 2 → BitVec 32 := ![0#32, 128#32]

/-- Chunk `n` of the codes of trip `k`'s `h`-th block of columns starts at row `256 k + 128 h` and byte `128 n`. -/
theorem offW_eq : ∀ (n : Fin 23) (k : Fin k0_t1_loop.trips) (h : Fin 2), offW n k (colOf h) = ![256 * k.val + 128 * h.val, 128 * n.val] := by
  decide +kernel

theorem offWT_eq : ∀ (k : Fin k0_t1_loop.trips) (h : Fin 2), k0_off116 k (colOf h) = ![256 * k.val + 128 * h.val, 2944] := by
  decide +kernel

/-- Scale group `g` of trip `k`'s `h`-th block of columns is in row `g`, from column `256 k + 128 h`. -/
theorem offS_eq : ∀ (g : Fin 94) (k : Fin k0_t1_loop.trips) (h : Fin 2), offS g k (colOf h) = ![g.val, 256 * k.val + 128 * h.val] := by
  decide +kernel

/-- The trip's tile starts at column `256 k`. -/
theorem offO_eq : ∀ k : Fin k0_t1_loop.trips, k0_off119 k = ![0, 256 * k.val] := by
  decide +kernel

theorem two_trips (k : Fin k0_t1_loop.trips) : k.val < 2 := Nat.lt_of_lt_of_le k.isLt k0_t1_abs.2.1

theorem inbW (n : Fin 23) (k : Fin k0_t1_loop.trips) (h : Fin 2) : ∀ a, offW n k (colOf h) a + S128x128.size a ≤ S512x3008.size a := by
  intro a
  have := two_trips k; have := h.isLt; have := n.isLt
  rw [offW_eq]
  match a with
  | ⟨0, _⟩ => show 256 * k.val + 128 * h.val + 128 ≤ 512; omega
  | ⟨1, _⟩ => show 128 * n.val + 128 ≤ 3008; omega

theorem inbWT (k : Fin k0_t1_loop.trips) (h : Fin 2) : ∀ a, k0_off116 k (colOf h) a + S128x64.size a ≤ S512x3008.size a := by
  intro a
  have := two_trips k; have := h.isLt
  rw [offWT_eq]
  match a with
  | ⟨0, _⟩ => show 256 * k.val + 128 * h.val + 128 ≤ 512; omega
  | ⟨1, _⟩ => show 2944 + 64 ≤ 3008; omega

theorem inbS (g : Fin 94) (k : Fin k0_t1_loop.trips) (h : Fin 2) : ∀ a, offS g k (colOf h) a + S1x128.size a ≤ S94x512.size a := by
  intro a
  have := two_trips k; have := h.isLt; have := g.isLt
  rw [offS_eq]
  match a with
  | ⟨0, _⟩ => show g.val + 1 ≤ 94; omega
  | ⟨1, _⟩ => show 256 * k.val + 128 * h.val + 128 ≤ 512; omega

theorem inbX (n : Fin 23) : ∀ a, (![0, 256 * n.val] : Fin 2 → ℕ) a + S24x256.size a ≤ S24x6016.size a := by
  intro a
  have := n.isLt
  match a with
  | ⟨0, _⟩ => show 0 + 24 ≤ 24; omega
  | ⟨1, _⟩ => show 256 * n.val + 256 ≤ 6016; omega

theorem inbXT : ∀ a, (![0, 5888] : Fin 2 → ℕ) a + S24x128.size a ≤ S24x6016.size a := by
  intro a
  match a with
  | ⟨0, _⟩ => show 0 + 24 ≤ 24; omega
  | ⟨1, _⟩ => show 5888 + 128 ≤ 6016; omega

variable (M1 : Memref sig .tc .vmem S24x6016 .bf16) (M2 : Memref sig .tc .vmem S512x3008 .i8) (M6 : Memref sig .tc .vmem S94x512 .f32)
  (X1 : BufTy.Contents (Elt F) M1.view.ty) (X2 : BufTy.Contents (Elt F) M2.view.ty) (X6 : BufTy.Contents (Elt F) M6.view.ty)

/-- The blocks trip `k` loads from the left operand, the codes and the transposed scales. -/
def loads (k : Fin k0_t1_loop.trips) : Reads F where
  w n h := View.readAt (Elt F) M2.view (Rect.unit (s := S512x3008) (offW n k (colOf h)) S128x128.size (inbW n k h)).toLoadRect X2
  wTail h := View.readAt (Elt F) M2.view (Rect.unit (s := S512x3008) (k0_off116 k (colOf h)) S128x64.size (inbWT k h)).toLoadRect X2
  sc g h := View.readAt (Elt F) M6.view (Rect.unit (s := S94x512) (offS g k (colOf h)) S1x128.size (inbS g k h)).toLoadRect X6
  x n := View.readAt (Elt F) M1.view (Rect.unit (s := S24x6016) ![0, 256 * n.val] S24x256.size (inbX n)).toLoadRect X1
  xTail := View.readAt (Elt F) M1.view (Rect.unit (s := S24x6016) ![0, 5888] S24x128.size inbXT).toLoadRect X1

attribute [local irreducible] View.readAt

theorem inbO (k : Fin k0_t1_loop.trips) : ∀ a, k0_off119 k a + S24x256.size a ≤ S24x512.size a := by
  intro a
  have := two_trips k
  rw [offO_eq]
  match a with
  | ⟨0, _⟩ => show 0 + 24 ≤ 24; omega
  | ⟨1, _⟩ => show 256 * k.val + 256 ≤ 512; omega

/-- A trip writes one piece: the tile made of the blocks it loads. -/
theorem trip_pieces (𝒱 : Variants) (c : Dev nD) (bd : Option 𝒱.V) (i : grid0.Coords) (h1 : M1.IsWhole) (h2 : M2.IsWhole)
    (M3 : Memref sig .tc .vmem S512x94 .f32) (h3 : M3.IsWhole) (M4 : Memref sig .tc .vmem S16x128 .f32) (h4 : M4.IsWhole)
    (M5 : Memref sig .tc .vmem S24x512 .bf16) (h5 : M5.IsWhole) (h6 : M6.IsWhole)
    (v0 : Vec F S16x128 .f32) (k : Fin k0_t1_loop.trips) :
    tripL_k0_t1 (F := F) 𝒱 c bd i M1 h1 M2 h2 M3 h3 M4 h4 M5 h5 M6 h6 v0 X1 X2 X6 k
      = [⟨Rect.unit (s := S24x512) (k0_off119 k) S24x256.size (inbO k), tile (k0_pay1 v0) (loads M1 M2 M6 X1 X2 X6 k)⟩] := by
  unfold tripL_k0_t1 trip_k0_t1
  rfl

end Cert.KernelIdeal.Hand

end
-- ==== Proof.TileAt.lean ====
/-
  A trip's tile in the buffers' elements.

  `outv` is what the body computes of the four blocks it finds: element (b, j) is the sum over the 6016 rows of weights of the
  left operand's element times the table's value at the code times the scale.  `trip_tile` says trip `k`'s tile is its columns
  `256 k` to `256 k + 255`, and `read_pieces` that the pieces of the two trips together leave `outv`.
-/
module

public import proofs.«01_k».proof.Proof.BlockAt
public import proofs.«01_k».proof.Proof.Trip
public import proofs.«01_k».proof.Proof.RunI
public import Idealize.ShloMosaic.Lib.VecWindow

@[expose] public section

noncomputable section

namespace Cert.KernelIdeal.Hand

open Cert.KernelIdeal Cert.KernelIdeal.Gen
open Idealize.ShloMosaic Idealize.SL.Sem

/-- The term of row `K` of the weights, at row `b` of the left operand and column `j` of the block; zero past the last row. -/
def term (x1 : Vec Ideal S24x6016 .bf16) (x2 : Vec Ideal S512x3008 .i8) (x3 : Vec Ideal S512x94 .f32) (x4 : Vec Ideal S16x128 .f32)
    (b : Fin 24) (j : Fin 512) (K : ℕ) : EReal :=
  if h : K < 6016 then
    x1 (ix2 b ⟨K, h⟩) * (x4 (ix2 (code (x2 (ix2 j ⟨32 * (K / 64) + K % 32, by omega⟩)) (K % 64)) ⟨j.val % 128, Nat.mod_lt _ (by decide)⟩)
      * x3 (ix2 j ⟨K / 64, by omega⟩))
  else 0

/-- What the body computes of the left operand, the codes, the scales and the table. -/
def outv (x1 : Vec Ideal S24x6016 .bf16) (x2 : Vec Ideal S512x3008 .i8) (x3 : Vec Ideal S512x94 .f32) (x4 : Vec Ideal S16x128 .f32) :
    Vec Ideal S24x512 .bf16 :=
  fun i => ∑ K ∈ Finset.range 6016, term x1 x2 x3 x4 (i 0) (i 1) K

/-- A rank-2 index is the pair of its coordinates. -/
theorem idx2 {n m : ℕ} (y : (⟨2, ![n, m]⟩ : Shape).Idx) : ∃ (a : Fin n) (b : Fin m), y = ix2 a b :=
  ⟨y 0, y 1, funext (Fin.forall_fin_two.mpr ⟨rfl, rfl⟩)⟩

/-- A load's element is the buffer's element at the load's offsets plus the index. -/
theorem readAt_elt {F : FTy → Type} {κ : Kind} {sp : Space} {s : Shape} {e : EltTy} (v : View sig κ sp s e) (f : v.ty.Contents (Elt F))
    {off off' size : Fin s.rank → ℕ} (inb : ∀ a, off a + size a ≤ s.size a) (y : (Rect.unit off size inb).shape.Idx) (z : s.Idx)
    (h : off = off') (hz : ∀ a, (z a).val = off' a + (y a).val) :
    v.readAt (Elt F) (Rect.unit off size inb).toLoadRect f y = v.read (Elt F) f z := by
  subst h
  rw [View.readAt_unit v f inb rfl inb]
  refine congrArg (v.read (Elt F) f) (funext fun a => Fin.ext ?_)
  show off a + 1 * (y a).val = (z a).val
  rw [hz a, Nat.one_mul]

section Trip

variable (M1 : Memref sig .tc .vmem S24x6016 .bf16) (M2 : Memref sig .tc .vmem S512x3008 .i8) (M6 : Memref sig .tc .vmem S94x512 .f32)
  (X1 : BufTy.Contents (Elt Ideal) M1.view.ty) (X2 : BufTy.Contents (Elt Ideal) M2.view.ty) (X6 : BufTy.Contents (Elt Ideal) M6.view.ty)
  (x1 : Vec Ideal S24x6016 .bf16) (x2 : Vec Ideal S512x3008 .i8) (x3 : Vec Ideal S512x94 .f32) (x4 : Vec Ideal S16x128 .f32)

/-- Trip `k`'s tile is columns `256 k` to `256 k + 255` of `outv`. -/
theorem trip_tile (hX1 : M1.view.read (Elt Ideal) X1 = x1) (hX2 : M2.view.read (Elt Ideal) X2 = x2)
    (hX6 : ∀ (g : Fin 94) (j : Fin 512), M6.view.read (Elt Ideal) X6 (ix2 g j) = x3 (ix2 j g))
    (k : Fin k0_t1_loop.trips) (b : Fin 24) (q : Fin 256) (j : Fin 512) (hj : j.val = 256 * k.val + q.val) :
    tile x4 (loads M1 M2 M6 X1 X2 X6 k) (ix2 b q) = outv x1 x2 x3 x4 (ix2 b j) := by
  have hq := q.isLt
  have hk := two_trips k
  have hl : (⟨j.val % 128, Nat.mod_lt _ (by decide)⟩ : Fin 128) = lane q := Fin.ext (by show j.val % 128 = q.val % 128; omega)
  refine tile_apply x4 _ b q (term x1 x2 x3 x4 b j) (fun n r => ?_) (fun r => ?_)
  · have hn := n.isLt
    have hr := r.isLt
    have hK : 256 * n.val + r.val < 6016 := by omega
    rw [wt_apply, term, dif_pos hK, hl]
    refine congrArg₂ (· * ·) ?_ (congrArg₂ (· * ·) ?_ ?_)
    · subst hX1
      refine readAt_elt M1.view X1 (inbX n) (ix2 b r) _ rfl (Fin.forall_fin_two.mpr ⟨?_, ?_⟩)
      · show b.val = 0 + b.val; omega
      · rfl
    · have hw : (loads M1 M2 M6 X1 X2 X6 k).w n (half q) (ix2 (lane q) ⟨32 * (r.val / 64) + r.val % 32, by omega⟩)
          = x2 (ix2 j ⟨32 * ((256 * n.val + r.val) / 64) + (256 * n.val + r.val) % 32, by omega⟩) := by
        subst hX2
        refine readAt_elt M2.view X2 (inbW n k (half q)) _ _ (offW_eq _ _ _) ?_
        refine Fin.forall_fin_two.mpr ⟨?_, ?_⟩
        · show j.val = 256 * k.val + 128 * (q.val / 128) + q.val % 128; omega
        · show 32 * ((256 * n.val + r.val) / 64) + (256 * n.val + r.val) % 32 = 128 * n.val + (32 * (r.val / 64) + r.val % 32); omega
      rw [hw, show (256 * n.val + r.val) % 64 = r.val % 64 by omega]
    · refine (readAt_elt M6.view X6 (inbS ⟨4 * n.val + r.val / 64, by omega⟩ k (half q)) _ (ix2 ⟨4 * n.val + r.val / 64, by omega⟩ j) (offS_eq _ _ _) ?_).trans ?_
      · refine Fin.forall_fin_two.mpr ⟨?_, ?_⟩
        · rfl
        · show j.val = 256 * k.val + 128 * (q.val / 128) + q.val % 128; omega
      · rw [hX6]
        refine congrArg (fun g => x3 (ix2 j g)) (Fin.ext ?_)
        show 4 * n.val + r.val / 64 = (256 * n.val + r.val) / 64; omega
  · have hr := r.isLt
    have hK : 5888 + r.val < 6016 := by omega
    rw [wtTail_apply, term, dif_pos hK, hl]
    refine congrArg₂ (· * ·) ?_ (congrArg₂ (· * ·) ?_ ?_)
    · subst hX1
      refine readAt_elt M1.view X1 inbXT (ix2 b r) _ rfl (Fin.forall_fin_two.mpr ⟨?_, ?_⟩)
      · show b.val = 0 + b.val; omega
      · rfl
    · have hw : (loads M1 M2 M6 X1 X2 X6 k).wTail (half q) (ix2 (lane q) ⟨32 * (r.val / 64) + r.val % 32, by omega⟩)
          = x2 (ix2 j ⟨32 * ((5888 + r.val) / 64) + (5888 + r.val) % 32, by omega⟩) := by
        subst hX2
        refine readAt_elt M2.view X2 (inbWT k (half q)) _ _ (offWT_eq _ _) ?_
        refine Fin.forall_fin_two.mpr ⟨?_, ?_⟩
        · show j.val = 256 * k.val + 128 * (q.val / 128) + q.val % 128; omega
        · show 32 * ((5888 + r.val) / 64) + (5888 + r.val) % 32 = 2944 + (32 * (r.val / 64) + r.val % 32); omega
      rw [hw, show (5888 + r.val) % 64 = r.val % 64 by omega]
    · refine (readAt_elt M6.view X6 (inbS ⟨92 + r.val / 64, by omega⟩ k (half q)) _ (ix2 ⟨92 + r.val / 64, by omega⟩ j) (offS_eq _ _ _) ?_).trans ?_
      · refine Fin.forall_fin_two.mpr ⟨?_, ?_⟩
        · rfl
        · show j.val = 256 * k.val + 128 * (q.val / 128) + q.val % 128; omega
      · rw [hX6]
        refine congrArg (fun g => x3 (ix2 j g)) (Fin.ext ?_)
        show 92 + r.val / 64 = (5888 + r.val) / 64; omega

end Trip

/-- The table, as the body reads it. -/
theorem pay1_eq (v : Vec Ideal S16x128 .f32) : k0_pay1 v = v := by
  funext i
  idx_vars i
  unfold k0_pay1
  pointwise

/-- The scales, as the body stores them: transposed. -/
theorem pay2_apply (v : Vec Ideal S512x94 .f32) (g : Fin 94) (j : Fin 512) : k0_pay2 v (ix2 g j) = v (ix2 j g) := by
  unfold k0_pay2
  pointwise

/-- The pieces of both trips, the last first. -/
theorem pieces_two {F : FTy → Type} [FloatOps F] (c : Dev nD) (i : grid0.Coords) (M1 : Memref sig .tc .vmem S24x6016 .bf16) (h1 : M1.IsWhole)
    (M2 : Memref sig .tc .vmem S512x3008 .i8) (h2 : M2.IsWhole) (M3 : Memref sig .tc .vmem S512x94 .f32) (h3 : M3.IsWhole)
    (M4 : Memref sig .tc .vmem S16x128 .f32) (h4 : M4.IsWhole) (M5 : Memref sig .tc .vmem S24x512 .bf16) (h5 : M5.IsWhole)
    (M6 : Memref sig .tc .vmem S94x512 .f32) (h6 : M6.IsWhole) (v0 : Vec F S16x128 .f32)
    (X1 : BufTy.Contents (Elt F) M1.view.ty) (X2 : BufTy.Contents (Elt F) M2.view.ty) (X6 : BufTy.Contents (Elt F) M6.view.ty)
    (k0 k1 : Fin k0_t1_loop.trips) (hk0 : k0.val = 0) (hk1 : k1.val = 1) :
    pb_k0_t1 (F := F) 𝒱₀ c none i M1 h1 M2 h2 M3 h3 M4 h4 M5 h5 M6 h6 v0 X1 X2 X6 2
      = [⟨Rect.unit (s := S24x512) (k0_off119 k1) S24x256.size (inbO k1), tile (k0_pay1 v0) (loads M1 M2 M6 X1 X2 X6 k1)⟩,
         ⟨Rect.unit (s := S24x512) (k0_off119 k0) S24x256.size (inbO k0), tile (k0_pay1 v0) (loads M1 M2 M6 X1 X2 X6 k0)⟩] := by
  have e0 := pb_k0_t1_succ (F := F) 𝒱₀ c none i M1 h1 M2 h2 M3 h3 M4 h4 M5 h5 M6 h6 v0 X1 X2 X6 k0
  have e1 := pb_k0_t1_succ (F := F) 𝒱₀ c none i M1 h1 M2 h2 M3 h3 M4 h4 M5 h5 M6 h6 v0 X1 X2 X6 k1
  rw [hk0] at e0
  rw [hk1] at e1
  rw [show (2 : ℕ) = 1 + 1 from rfl, e1, show (1 : ℕ) = 0 + 1 from rfl, e0, trip_pieces, trip_pieces, pb_k0_t1.eq_1]
  rfl

/-- Whatever the result's buffer held, the body's pieces leave `outv` of the four blocks in it. -/
theorem read_pieces (c : Dev nD) (i : grid0.Coords) (M1 : Memref sig .tc .vmem S24x6016 .bf16) (h1 : M1.IsWhole)
    (M2 : Memref sig .tc .vmem S512x3008 .i8) (h2 : M2.IsWhole) (M3 : Memref sig .tc .vmem S512x94 .f32) (h3 : M3.IsWhole)
    (M4 : Memref sig .tc .vmem S16x128 .f32) (h4 : M4.IsWhole) (M5 : Memref sig .tc .vmem S24x512 .bf16) (h5 : M5.IsWhole)
    (M6 : Memref sig .tc .vmem S94x512 .f32) (h6 : M6.IsWhole)
    (x1 : Vec Ideal S24x6016 .bf16) (x2 : Vec Ideal S512x3008 .i8) (x3 : Vec Ideal S512x94 .f32) (x4 : Vec Ideal S16x128 .f32)
    (f6 : BufTy.Contents (Elt Ideal) M6.view.ty) (f5 : BufTy.Contents (Elt Ideal) M5.view.ty) :
    M5.view.read (Elt Ideal) (M5.view.writes (Elt Ideal) f5 (kernelRun c i M1 h1 M2 h2 M3 h3 M4 h4 M5 h5 M6 h6 x1 x2 x3 x4 f6).1)
      = outv x1 x2 x3 x4 := by
  have ht : Scf.trips (0#32) (Scalar.addi 0#32 2#32) 1#32 = 2 := by decide
  have hT : k0_t1_loop.trips = 2 := ht
  dsimp only [kernelRun, kernelRun.sl.H6_1]
  rw [ht, pieces_two c i M1 h1 M2 h2 M3 h3 M4 h4 M5 h5 M6 h6 _ _ _ _ ⟨0, by omega⟩ ⟨1, by omega⟩ rfl rfl, pay1_eq]
  have hv0 : View.readAt (Elt Ideal) M4.view (Rect.unit ![0, 0] ![16, 128] inb_S16x128_S16x128_0_0).toLoadRect (h4.unread x4) = x4 := by
    funext y
    obtain ⟨a, b, rfl⟩ := idx2 y
    refine (readAt_elt M4.view _ _ _ (ix2 a b) rfl (Fin.forall_fin_two.mpr ⟨(Nat.zero_add _).symm, (Nat.zero_add _).symm⟩)).trans ?_
    rw [h4.read_unread]
  rw [hv0]
  generalize hX6 : M6.view.writes (Elt Ideal) M6.view.junk _ = X6
  have h6' (g : Fin 94) (j : Fin 512) : M6.view.read (Elt Ideal) X6 (ix2 g j) = x3 (ix2 j g) := by
    subst hX6
    refine (View.read_writes_cons_unit_of_mem _ _ _ _ _ _ (ix2 g j) rfl (Fin.forall_fin_two.mpr ⟨(Nat.zero_add _).symm, (Nat.zero_add _).symm⟩)).trans ?_
    rw [pay2_apply]
    refine (readAt_elt M3.view _ _ _ (ix2 j g) rfl (Fin.forall_fin_two.mpr ⟨(Nat.zero_add _).symm, (Nat.zero_add _).symm⟩)).trans ?_
    rw [h3.read_unread]
  have hL (k : Fin k0_t1_loop.trips) (b : Fin 24) (q : Fin 256) (j : Fin 512) (hj : j.val = 256 * k.val + q.val) :=
    trip_tile M1 M2 M6 (h1.unread x1) (h2.unread x2) X6 x1 x2 x3 x4 (h1.read_unread x1) (h2.read_unread x2) h6' k b q j hj
  funext y
  obtain ⟨b, j, rfl⟩ := idx2 y
  by_cases hj : j.val < 256
  · rw [View.read_writes_cons_unit_of_not_mem M5.view f5 _ _ _ _ (offO_eq _) 1 (Or.inl hj)]
    exact (View.read_writes_cons_unit_of_mem M5.view f5 _ _ _ _ (ix2 b ⟨j.val, hj⟩) (offO_eq _)
      (Fin.forall_fin_two.mpr ⟨(Nat.zero_add _).symm, (Nat.zero_add _).symm⟩)).trans (hL _ b _ j (Nat.zero_add _).symm)
  · have h : j.val = 256 * 1 + (j.val - 256) := by omega
    have hq : j.val - 256 < 256 := by have := j.isLt; omega
    have h1 : 1 < k0_t1_loop.trips := by omega
    exact (View.read_writes_cons_unit_of_mem M5.view f5 _ _ _ _ (ix2 b ⟨j.val - 256, hq⟩) (offO_eq ⟨1, h1⟩)
      (Fin.forall_fin_two.mpr ⟨(Nat.zero_add _).symm, h⟩)).trans (hL _ b _ j h)

end Cert.KernelIdeal.Hand

end
-- ==== Proof.OutArr.lean ====
/-
  The result array.

  `total` is the function of the whole arrays whose blocks the grid's points write: element (b, j) is the sum over the 6016 rows of
  weights.  `cut_out` says that the columns inside the array of what the body computes at a point are that point's block of `total`,
  whatever the clipped windows' buffers hold past the arrays' end.
-/
module

public import proofs.«01_k».proof.Proof.TileAt
public import proofs.«01_k».proof.Proof.FrameI
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

/-- The term of row `K` of the weights, at row `b` of the left operand and column `j` of the result; zero past the last row. -/
def totalTerm (X : Vec Ideal S24x6016 .bf16) (W : Vec Ideal S18048x3008 .i8) (A : Vec Ideal S18048x94 .f32) (T : Vec Ideal S16x128 .f32)
    (b : Fin 24) (j : Fin 18048) (K : ℕ) : EReal :=
  if h : K < 6016 then
    X (ix2 b ⟨K, h⟩) * (T (ix2 (code (W (ix2 j ⟨32 * (K / 64) + K % 32, by omega⟩)) (K % 64)) ⟨j.val % 128, Nat.mod_lt _ (by decide)⟩)
      * A (ix2 j ⟨K / 64, by omega⟩))
  else 0

/-- What the kernel computes of the left operand, the codes, the scales and the table. -/
def total (X : Vec Ideal S24x6016 .bf16) (W : Vec Ideal S18048x3008 .i8) (A : Vec Ideal S18048x94 .f32) (T : Vec Ideal S16x128 .f32) :
    Vec Ideal S24x18048 .bf16 :=
  fun i => ∑ K ∈ Finset.range 6016, totalTerm X W A T (i 0) (i 1) K

/-- The blocks of the windows, and how much of them lies inside the arrays. -/
theorem index_eq : ∀ t : Fin grid0.N, win0_0.index t = ![0, 0] ∧ win0_1.index t = ![t.val, 0] ∧ win0_2.index t = ![t.val, 0]
    ∧ win0_3.index t = ![0, 0] ∧ win0_4.index t = ![0, t.val] := by
  decide +kernel

theorem xsize_eq : ∀ t : Fin grid0.N, win0_1.xsize (grid0.coords t) 1 = 3008 ∧ win0_2.xsize (grid0.coords t) 1 = 94
    ∧ win0_4.xsize (grid0.coords t) 0 = 24 ∧ win0_1.xsize (grid0.coords t) 0 = win0_4.xsize (grid0.coords t) 1
    ∧ win0_2.xsize (grid0.coords t) 0 = win0_4.xsize (grid0.coords t) 1
    ∧ win0_4.xsize (grid0.coords t) 1 = (if t.val < 35 then 512 else 128) := by
  decide +kernel

/-- A filled-out block at an index of its moved part is that part there. -/
theorem fill_at {G : Pipeline.Grid} (w : Window sig G) {α : Type} (i : G.Coords) (d : w.block.Idx → α) (g : (w.xblock i).Idx → α)
    (j : w.block.Idx) (z : (w.xblock i).Idx) (h : w.xinj i z = j) : w.fill i d g j = g z :=
  h ▸ congrFun (w.cut_fill i d g) z

variable (m : (ℓ : Loc nD τ sig) → Buf (Elt Ideal) ℓ)

/-- The arrays the windows read, as the region finds them. -/
abbrev arrX (c : Dev nD) : Vec Ideal S24x6016 .bf16 := V m c main_v2
abbrev arrW (c : Dev nD) : Vec Ideal S18048x3008 .i8 := V m c main_arg1
abbrev arrA (c : Dev nD) : Vec Ideal S18048x94 .f32 := V m c main_arg2
abbrev arrT (c : Dev nD) : Vec Ideal S16x128 .f32 := V m c main_v4

theorem iblk0_at (c : Dev nD) (t : Fin cfg0.N) (b : Fin 24) (K : Fin 6016) : iblk m c 0 t (ix2 b K) = arrX m c (ix2 b K) := by
  have hi := (index_eq t).1
  refine congrArg (arrX m c) (funext fun a => Fin.ext ?_)
  refine (win0_0.rect_emb_val t (ix2 b K) a rfl).trans ?_
  rw [hi]
  match a with
  | ⟨0, _⟩ => show 0 * 24 + b.val = b.val; omega
  | ⟨1, _⟩ => show 0 * 6016 + K.val = K.val; omega

theorem iblk3_at (c : Dev nD) (t : Fin cfg0.N) (n : Fin 16) (l : Fin 128) : iblk m c 3 t (ix2 n l) = arrT m c (ix2 n l) := by
  have hi := (index_eq t).2.2.2.1
  refine congrArg (arrT m c) (funext fun a => Fin.ext ?_)
  refine (win0_3.rect_emb_val t (ix2 n l) a rfl).trans ?_
  rw [hi]
  match a with
  | ⟨0, _⟩ => show 0 * 16 + n.val = n.val; omega
  | ⟨1, _⟩ => show 0 * 128 + l.val = l.val; omega

/-- The codes' buffer holds, on the rows inside the array, the array's rows from `512 t`. -/
theorem wfill_at (c : Dev nD) (t : Fin cfg0.N) (d : Vec Ideal S512x3008 .i8) (j : Fin 512) (n : Fin 3008)
    (hj : j.val < win0_4.xsize (grid0.coords t) 1) (J : Fin 18048) (hJ : J.val = 512 * t.val + j.val) :
    win0_1.fill (grid0.coords t) d (iblk m c 1 t) (ix2 j n) = arrW m c (ix2 J n) := by
  have hi := (index_eq t).2.1
  have hx := xsize_eq t
  have hz : ∀ a : Fin 2, (ix2 j n a).val < win0_1.xsize (grid0.coords t) a := Fin.forall_fin_two.mpr
    ⟨by rw [hx.2.2.2.1]; exact hj, by rw [hx.1]; exact n.isLt⟩
  rw [fill_at win0_1 (grid0.coords t) d (iblk m c 1 t) (ix2 j n) (fun a => ⟨(ix2 j n a).val, hz a⟩) rfl]
  refine congrArg (arrW m c) (funext fun a => Fin.ext ?_)
  refine (win0_1.rect_emb_val t _ a rfl).trans ?_
  rw [hi]
  match a with
  | ⟨0, _⟩ => show t.val * 512 + j.val = J.val; omega
  | ⟨1, _⟩ => show 0 * 3008 + n.val = n.val; omega

/-- The scales' buffer, likewise. -/
theorem afill_at (c : Dev nD) (t : Fin cfg0.N) (d : Vec Ideal S512x94 .f32) (j : Fin 512) (g : Fin 94)
    (hj : j.val < win0_4.xsize (grid0.coords t) 1) (J : Fin 18048) (hJ : J.val = 512 * t.val + j.val) :
    win0_2.fill (grid0.coords t) d (iblk m c 2 t) (ix2 j g) = arrA m c (ix2 J g) := by
  have hi := (index_eq t).2.2.1
  have hx := xsize_eq t
  have hz : ∀ a : Fin 2, (ix2 j g a).val < win0_2.xsize (grid0.coords t) a := Fin.forall_fin_two.mpr
    ⟨by rw [hx.2.2.2.2.1]; exact hj, by rw [hx.2.1]; exact g.isLt⟩
  rw [fill_at win0_2 (grid0.coords t) d (iblk m c 2 t) (ix2 j g) (fun a => ⟨(ix2 j g a).val, hz a⟩) rfl]
  refine congrArg (arrA m c) (funext fun a => Fin.ext ?_)
  refine (win0_2.rect_emb_val t _ a rfl).trans ?_
  rw [hi]
  match a with
  | ⟨0, _⟩ => show t.val * 512 + j.val = J.val; omega
  | ⟨1, _⟩ => show 0 * 94 + g.val = g.val; omega

/-- The result's array after the launch. -/
abbrev totalOf (c : Dev nD) : Vec Ideal S24x18048 .bf16 := total (arrX m c) (arrW m c) (arrA m c) (arrT m c)

/-- What the body computes at point `t`, on the columns inside the array, is block `t` of `total`. -/
theorem cut_out (c : Dev nD) (t : Fin cfg0.N) (d1 : Vec Ideal S512x3008 .i8) (d2 : Vec Ideal S512x94 .f32) :
    win0_4.cut (grid0.coords t) (outv (iblk m c 0 t) (win0_1.fill (grid0.coords t) d1 (iblk m c 1 t))
        (win0_2.fill (grid0.coords t) d2 (iblk m c 2 t)) (iblk m c 3 t))
      = (win0_4.blk t).view.read (Elt Ideal) (totalOf m c) := by
  have hi := (index_eq t).2.2.2.2
  have hx := xsize_eq t
  have ht : t.val < 36 := t.isLt
  funext y
  have hb : (y 0).val < 24 := hx.2.2.1 ▸ (y 0).isLt
  have hj : (y 1).val < win0_4.xsize (grid0.coords t) 1 := (y 1).isLt
  have hj' := hj
  rw [hx.2.2.2.2.2] at hj'
  have hj5 : (y 1).val < 512 := by split at hj' <;> omega
  have hJ : 512 * t.val + (y 1).val < 18048 := by split at hj' <;> omega
  have e1 : win0_4.xinj (grid0.coords t) y = ix2 (⟨(y 0).val, hb⟩ : Fin 24) (⟨(y 1).val, hj5⟩ : Fin 512) :=
    funext fun a => Fin.ext (by match a with | ⟨0, _⟩ => rfl | ⟨1, _⟩ => rfl)
  have e2 : (win0_4.rect t).emb y = ix2 (⟨(y 0).val, hb⟩ : Fin 24) (⟨512 * t.val + (y 1).val, hJ⟩ : Fin 18048) :=
    funext fun a => Fin.ext (by
      refine (win0_4.rect_emb_val t y a rfl).trans ?_
      rw [hi]
      match a with
      | ⟨0, _⟩ => show 0 * 24 + (y 0).val = (y 0).val; omega
      | ⟨1, _⟩ => show t.val * 512 + (y 1).val = 512 * t.val + (y 1).val; omega)
  show outv _ _ _ _ (win0_4.xinj (grid0.coords t) y) = totalOf m c ((win0_4.rect t).emb y)
  rw [e1, e2]
  refine Finset.sum_congr rfl fun K hK => ?_
  have hK' : K < 6016 := Finset.mem_range.mp hK
  show term _ _ _ _ (⟨(y 0).val, hb⟩ : Fin 24) (⟨(y 1).val, hj5⟩ : Fin 512) K
    = totalTerm _ _ _ _ (⟨(y 0).val, hb⟩ : Fin 24) (⟨512 * t.val + (y 1).val, hJ⟩ : Fin 18048) K
  rw [term, totalTerm, dif_pos hK', dif_pos hK', iblk0_at, iblk3_at, wfill_at m c t d1 _ _ hj ⟨512 * t.val + (y 1).val, hJ⟩ rfl,
    afill_at m c t d2 _ _ hj ⟨512 * t.val + (y 1).val, hJ⟩ rfl]
  have hl : (⟨(y 1).val % 128, Nat.mod_lt _ (by decide)⟩ : Fin 128) = ⟨(512 * t.val + (y 1).val) % 128, Nat.mod_lt _ (by decide)⟩ :=
    Fin.ext (by show (y 1).val % 128 = (512 * t.val + (y 1).val) % 128; omega)
  rw [hl]

/-- What the body leaves in the result's buffer, the clipped inputs filled out with zero words. -/
def outI : OutFam Ideal := fun c t => outv (iblk m c 0 t) (wblk m c t) (ablk m c t) (iblk m c 3 t)

/-- Every column of the result is some point's. -/
theorem arr_out (c : Dev nD) : (dats m (outI m) 0 c).arrAt 4 cfg0.N = totalOf m c := by
  refine (dats m (outI m) 0 c).arrAt_eq_of_cover 4 (totalOf m c) (fun t _ => ?_) (fun i => ?_)
  · show win0_4.cut (grid0.coords t) ((dats m (outI m) 0 c).after 4 t) = _
    rw [after0_4]
    exact cut_out m c t _ _
  · have hc : (i 1).val < 18048 := (i 1).isLt
    have hlt : (i 1).val / 512 < 36 := by omega
    refine ⟨⟨(i 1).val / 512, hlt⟩, flush0_4 _, ?_⟩
    have hi := (index_eq ⟨(i 1).val / 512, hlt⟩).2.2.2.2
    have hx := xsize_eq ⟨(i 1).val / 512, hlt⟩
    have h0 : (i 0).val < 24 := (i 0).isLt
    have hz : ∀ a : Fin 2, (![(i 0).val, (i 1).val % 512] a) < win0_4.xsize (grid0.coords ⟨(i 1).val / 512, hlt⟩) a :=
      Fin.forall_fin_two.mpr ⟨by rw [hx.2.2.1]; exact h0, by
        rw [hx.2.2.2.2.2]
        show (i 1).val % 512 < if (i 1).val / 512 < 35 then 512 else 128
        split <;> omega⟩
    refine Finset.mem_map.mpr ⟨fun a => ⟨_, hz a⟩, Finset.mem_univ _, funext fun a => Fin.ext ?_⟩
    refine (win0_4.rect_emb_val _ _ a rfl).trans ?_
    rw [hi]
    match a with
    | ⟨0, _⟩ => show 0 * 24 + (i 0).val = (i 0).val; omega
    | ⟨1, _⟩ => show (i 1).val / 512 * 512 + (i 1).val % 512 = (i 1).val; omega

end Cert.KernelIdeal.Hand

end
-- ==== Proof.ValueI.lean ====
/-
  What the kernel returns.

  `value_run` says that from any memory whose semaphore counters are zero every weakly fair execution ends with the result holding
  `total` of the arrays that the region finds, and the arguments unchanged.
-/
module

public import proofs.«01_k».proof.Proof.OutArr
public import Idealize.ShloMosaic.Lib.StableHlo.ReadAt
public import Idealize.ShloMosaic.Lib.Claim

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable (m : (ℓ : Loc nD τ sig) → Buf (Elt Ideal) ℓ) (ρ : Dev nD → PrngReg)

/-- What the body leaves at a point is the filling-out, by itself, of the block it is obliged to leave. -/
theorem fill_out (c : Dev nD) (t : Fin cfg0.N) (d1 : Vec Ideal S512x3008 .i8) (d2 : Vec Ideal S512x94 .f32) :
    outv (iblk m c 0 t) (win0_1.fill (grid0.coords t) d1 (iblk m c 1 t)) (win0_2.fill (grid0.coords t) d2 (iblk m c 2 t)) (iblk m c 3 t)
      = win0_4.fill (grid0.coords t) (outv (iblk m c 0 t) (win0_1.fill (grid0.coords t) d1 (iblk m c 1 t))
          (win0_2.fill (grid0.coords t) d2 (iblk m c 2 t)) (iblk m c 3 t)) (win0_4.cut (grid0.coords t) (outI m c t)) := by
  rw [show win0_4.cut (grid0.coords t) (outI m c t) = win0_4.cut (grid0.coords t) (outv (iblk m c 0 t)
      (win0_1.fill (grid0.coords t) d1 (iblk m c 1 t)) (win0_2.fill (grid0.coords t) d2 (iblk m c 2 t)) (iblk m c 3 t)) from
    (cut_out m c t _ _).trans (cut_out m c t d1 d2).symm]
  exact (win0_4.fill_cut _ _).symm

/-- The body obligation: at each point the body leaves `outI` on the columns inside the array. -/
theorem body_obligation (c : Dev nD) : BodyObligationLoose (dats m (outI m) 0 c) (defs₀ (F := Ideal)) 𝒱₀ () Set.univ := fun t => by
  rw [bigSep_W0, bigSep_W0]
  sl_whnfR [defs₀, Defs.onTc]
  rw [show (dats m (outI m) 0 c).Φ t.succ = Pipeline.ΦA spec0 c from rfl, show (dats m (outI m) 0 c).Φ t.castSucc = Pipeline.ΦA spec0 c from rfl,
    show (dats m (outI m) 0 c).owesAt () t.succ = (dats m (outI m) 0 c).owesAt () t.castSucc from rfl, after0_0, after0_1, after0_2, after0_3,
    after0_4]
  iintro ⟨HΦ, Ho, ⟨%d0, H0⟩, ⟨%d1, H1⟩, ⟨%d2, H2⟩, ⟨%d3, H3⟩, ⟨%d4, H4⟩⟩
  rw [before0_0, before0_1, before0_2, before0_3]
  iapply (point_run c t (iblk m c 0 t) (win0_1.fill (grid0.coords t) d1 (iblk m c 1 t)) (win0_2.fill (grid0.coords t) d2 (iblk m c 2 t)) (iblk m c 3 t) _)
  isplitl [HΦ]; · iexact HΦ
  isplitl [H0]; · iexact H0
  isplitl [H1]; · iexact H1
  isplitl [H2]; · iexact H2
  isplitl [H3]; · iexact H3
  isplitl [H4]; · iexists _; iexact H4
  iintro ⟨HΦ, H0, H1, H2, H3, ⟨%f6, %f5, H4⟩⟩
  isplitl [HΦ]; · iexact HΦ
  isplitl [Ho]; · iexact Ho
  isplitl [H0]; · iexact H0
  isplitl [H1]
  · iexists d1
    rw [show (cfg0.win 1).cut (cfg0.grid.coords t) (wblk m c t) = iblk m c 1 t from win0_1.cut_fill _ _ _]
    iexact H1
  isplitl [H2]
  · iexists d2
    rw [show (cfg0.win 2).cut (cfg0.grid.coords t) (ablk m c t) = iblk m c 2 t from win0_2.cut_fill _ _ _]
    iexact H2
  isplitl [H3]; · iexact H3
  iexists (outv (iblk m c 0 t) (win0_1.fill (grid0.coords t) d1 (iblk m c 1 t)) (win0_2.fill (grid0.coords t) d2 (iblk m c 2 t)) (iblk m c 3 t))
  have e := (read_pieces c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (Memref.whole cc0_scratch0) (Memref.isWhole_whole _) (iblk m c 0 t) (win0_1.fill (grid0.coords t) d1 (iblk m c 1 t)) (win0_2.fill (grid0.coords t) d2 (iblk m c 2 t)) (iblk m c 3 t) f6 f5).trans
      (fill_out m c t d1 d2)
  rw [show (cfg0.win 4).fill (cfg0.grid.coords t) (outv (iblk m c 0 t) (win0_1.fill (grid0.coords t) d1 (iblk m c 1 t)) (win0_2.fill (grid0.coords t) d2 (iblk m c 2 t)) (iblk m c 3 t)) ((cfg0.win 4).cut (cfg0.grid.coords t) (outI m c t)) = _ from e.symm]
  iexact H4

/-- The result, as the last host line leaves it: the array of columns given the unit axis of the left operand. -/
def result (c : Dev nD) : Vec Ideal S24x1x18048 .bf16 := fun i => totalOf m c (ix2 (i 0) (i 2))

theorem tail_eq (c : Dev nD) : Pipeline.afterTail₀ cfgs (dats m (outI m)) 0 (V0 m) [hostOps1] c main_v6 = result m c := by
  have h5 : Pipeline.withArrays (cfgs 0).spec c (V0 m c) (fun w => (dats m (outI m) 0 c).arrAt w (cfgs 0).N) (Proc.devRef .tc main_v5)
      = totalOf m c :=
    (Pipeline.withArrays_arr spec0 launch0.win.arr_inj c (V0 m c) (fun w => (dats m (outI m) 0 c).arrAt w (cfgs 0).N) 4).trans (arr_out m c)
  funext i
  obtain ⟨b, z, j, rfl⟩ : ∃ (b : Fin 24) (z : Fin 1) (j : Fin 18048), i = ix3 b z j :=
    ⟨i 0, i 1, i 2, funext fun a => by match a with | ⟨0, _⟩ => rfl | ⟨1, _⟩ => rfl | ⟨2, _⟩ => rfl⟩
  show StableHlo.after hostOps1 (Pipeline.withArrays (cfgs 0).spec c (V0 m c) (fun w => (dats m (outI m) 0 c).arrAt w (cfgs 0).N))
    (Proc.devRef .tc main_v6) (ix3 b z j) = totalOf m c (ix2 b j)
  rw [← h5]
  generalize Pipeline.withArrays (cfgs 0).spec c (V0 m c) (fun w => (dats m (outI m) 0 c).arrAt w (cfgs 0).N) = U
  after_reads_at

set_option backward.isDefEq.respectTransparency.types false in
/-- The run: the result at `result`, the arguments as launched. -/
theorem value_run : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame_around cfgs (dats m (outI m)) (0 : Fin 1) launch0 defs₀ 𝒱₀ m ρ main
    (hbody := body_obligation m)
    (hshare := fun c => (dats m _ 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)
    (Q' := _) (hQ' := fun r h c => ⟨
      ((h.1 c).2 main_v6 (Pipeline.mem_restRefs_of main_v6 (by decide) (by decide))).trans (tail_eq m c),
      ((h.1 c).2 main_arg0 (Pipeline.mem_restRefs_of main_arg0 (by decide) (by decide))).trans (W_main_arg0 m _ c),
      ((h.1 c).1 1).trans (((dats m (outI m) 0 c).arrAt_in 1 rfl _).trans (V_main_arg1 m c)), ((h.1 c).1 2).trans (((dats m (outI m) 0 c).arrAt_in 2 rfl _).trans (V_main_arg2 m c))⟩)

/-- The left operand as the region finds it: within a group of 64 rows, the 32 even columns of the argument come first. -/
theorem arrX_at (c : Dev nD) (b : Fin 24) (K : Fin 6016) : arrX m c (ix2 b K)
    = m ((c.tc : Thread nD τ).loc main_arg0) (ix3 b 0 ⟨K.val / 64 * 64 + K.val % 32 * 2 + K.val / 32 % 2, by omega⟩) := by
  unfold arrX V V0
  after_reads_at

/-- The table as the region finds it: each lane holds the sixteen numbers of the format. -/
theorem arrT_at (c : Dev nD) (n : Fin 16) (l : Fin 128) : arrT m c (ix2 n l) = Ideal.ofBits FTy.f32 (lit0 n) := by
  unfold arrT V V0
  after_reads_at
  refine congrArg (fun k => Ideal.ofBits FTy.f32 (lit0 k)) (Fin.ext ?_)
  exact Shape.rowMajor_val_one _

end Cert.KernelIdeal.Hand

end
-- ==== Proof.RefAt.lean ====
/-
  What the reference computes.

  `reference_at` reads its result at an index: the sum over the codes' columns of an even column of the left operand times the low
  code's number times the scale, plus the same sum of the odd columns and the high codes.
-/
module

public import proofs.«01_k».proof.Proof.Nibble
public import proofs.«01_k».proof.Proof.Gen.ReferenceIdeal.Read
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Idealize.ShloMosaic Idealize.SL.Sem
open Cert.KernelIdeal (lit0)
open Cert.KernelIdeal.Hand (code)

/-- Whether the code `c` has the bit of the mask `b`. -/
def bit (c b : BitVec 32) : BitVec 1 := IntOp.cmpi .ne (IntOp.andi c b) 0#32

/-- One of sixteen things, chosen by the four bits of a code. -/
def choose {α : Type} (f : Fin 16 → α) (c : BitVec 32) : α :=
  Scalar.select (bit c 8#32)
    (Scalar.select (bit c 4#32)
      (Scalar.select (bit c 2#32) (Scalar.select (bit c 1#32) (f 15) (f 14)) (Scalar.select (bit c 1#32) (f 13) (f 12)))
      (Scalar.select (bit c 2#32) (Scalar.select (bit c 1#32) (f 11) (f 10)) (Scalar.select (bit c 1#32) (f 9) (f 8))))
    (Scalar.select (bit c 4#32)
      (Scalar.select (bit c 2#32) (Scalar.select (bit c 1#32) (f 7) (f 6)) (Scalar.select (bit c 1#32) (f 5) (f 4)))
      (Scalar.select (bit c 2#32) (Scalar.select (bit c 1#32) (f 3) (f 2)) (Scalar.select (bit c 1#32) (f 1) (f 0))))

theorem select_map {α β : Type} (g : α → β) (b : BitVec 1) (x y : α) : Scalar.select b (g x) (g y) = g (Scalar.select b x y) := by
  unfold Scalar.select; split <;> rfl

theorem choose_map {α : Type} (f : Fin 16 → α) (c : BitVec 32) : choose f c = f (choose id c) := by
  simp only [choose, select_map, id_eq]

/-- The four bits choose the thing of the code's number. -/
theorem choose_lo : ∀ b : BitVec 8, choose id (IntOp.andi (b.setWidth 32) 15#32) = code b 0 := by
  decide +kernel

theorem choose_hi : ∀ b : BitVec 8, choose id (IntOp.shrui .host (b.setWidth 32) 4#32) = code b 32 := by
  decide +kernel

/-- The number of a code. -/
def number (n : Fin 16) : EReal := Ideal.ofBits FTy.f32 (lit0 n)

variable (x0 : (⟨S24x1x6016, .bf16⟩ : BufTy).Contents (Elt Ideal)) (x1 : (⟨S18048x3008, .i8⟩ : BufTy).Contents (Elt Ideal))
  (x2 : (⟨S18048x94, .f32⟩ : BufTy).Contents (Elt Ideal))

theorem lo_at (i : S18048x3008.Idx) : val_main_v35 (F := Ideal) x1 i = number (code (x1 i) 0) :=
  (show val_main_v35 (F := Ideal) x1 i = choose number (IntOp.andi ((x1 i : BitVec 8).setWidth 32) 15#32) from rfl).trans
    ((choose_map _ _).trans (congrArg number (choose_lo _)))

theorem hi_at (i : S18048x3008.Idx) : val_main_v72 (F := Ideal) x1 i = number (code (x1 i) 32) :=
  (show val_main_v72 (F := Ideal) x1 i = choose number (IntOp.shrui .host ((x1 i : BitVec 8).setWidth 32) 4#32) from rfl).trans
    ((choose_map _ _).trans (congrArg number (choose_hi _)))

/-- The weights of the low codes, and of the high ones. -/
theorem wlo_at (j : Fin 18048) (i : Fin 3008) : val_main_v41 (F := Ideal) x1 x2 (ix2 j i)
    = number (code (x1 (ix2 j i)) 0) * x2 (ix2 j ⟨i.val / 32, by omega⟩) := by
  simp only [← lo_at]
  unfold val_main_v41 val_main_v40 val_main_v39 val_main_v38 val_main_v37 val_main_v36
  generalize val_main_v35 (F := Ideal) x1 = y
  pointwise

theorem whi_at (j : Fin 18048) (i : Fin 3008) : val_main_v78 (F := Ideal) x1 x2 (ix2 j i)
    = number (code (x1 (ix2 j i)) 32) * x2 (ix2 j ⟨i.val / 32, by omega⟩) := by
  simp only [← hi_at]
  unfold val_main_v78 val_main_v77 val_main_v76 val_main_v75 val_main_v74 val_main_v73
  generalize val_main_v72 (F := Ideal) x1 = y
  pointwise

/-- The even columns of the left operand, and the odd ones. -/
theorem even_at (b : Fin 24) (i : Fin 3008) : val_main_v79 (F := Ideal) x0 (ix3 b 0 i) = x0 (ix3 b 0 ⟨2 * i.val, by omega⟩) := by
  unfold val_main_v79
  pointwise

theorem odd_at (b : Fin 24) (i : Fin 3008) : val_main_v81 (F := Ideal) x0 (ix3 b 0 i) = x0 (ix3 b 0 ⟨2 * i.val + 1, by omega⟩) := by
  unfold val_main_v81
  pointwise
  exact congrArg (fun k => x0 (ix3 b 0 k)) (Fin.ext (Nat.add_comm _ _))

theorem reference_at (b : Fin 24) (j : Fin 18048) : val_main_v84 (F := Ideal) x0 x1 x2 (ix3 b 0 j)
    = (∑ i : Fin 3008, x0 (ix3 b 0 ⟨2 * i.val, by omega⟩) * (number (code (x1 (ix2 j i)) 0) * x2 (ix2 j ⟨i.val / 32, by omega⟩)))
      + ∑ i : Fin 3008, x0 (ix3 b 0 ⟨2 * i.val + 1, by omega⟩) * (number (code (x1 (ix2 j i)) 32) * x2 (ix2 j ⟨i.val / 32, by omega⟩)) := by
  have el : ∀ k : Fin 3008, lidx_main_v80 (ix3 b 0 j) k = ix3 b 0 k := fun k => funext fun a => by
    match a with | ⟨0, _⟩ => rfl | ⟨1, _⟩ => rfl | ⟨2, _⟩ => rfl
  have er : ∀ k : Fin 3008, ridx_main_v80 (ix3 b 0 j) k = ix2 j k := fun k => funext fun a => by
    match a with | ⟨0, _⟩ => rfl | ⟨1, _⟩ => rfl
  show val_main_v80 (F := Ideal) x0 x1 x2 (ix3 b 0 j) + val_main_v82 (F := Ideal) x0 x1 x2 (ix3 b 0 j) = _
  rw [val_main_v80_apply, val_main_v82_apply]
  refine congrArg₂ (· + ·) (Finset.sum_congr rfl fun k _ => ?_) (Finset.sum_congr rfl fun k _ => ?_)
  · rw [el, er, even_at, wlo_at]
  · rw [show lidx_main_v82 (ix3 b 0 j) k = _ from el k, show ridx_main_v82 (ix3 b 0 j) k = _ from er k, odd_at, whi_at]

end Cert.ReferenceIdeal.Hand

end
-- ==== Proof.Equation.lean ====
/-
  The equation: the kernel's result is the reference's.

  The kernel sums over the rows of weights in groups of 64, the 32 low codes of a group before its 32 high ones; the reference sums
  over the low codes and over the high ones.  `sum_groups` rearranges the sum; `result_eq` is the equation.
-/
module

public import proofs.«01_k».proof.Proof.ValueI
public import proofs.«01_k».proof.Proof.RefAt

@[expose] public section

set_option maxRecDepth 16384

noncomputable section

namespace Cert.Equation

open Idealize.ShloMosaic Idealize.ShloMosaic.TcCoe Idealize.SL.Sem
open Cert.KernelIdeal.Hand Cert.ReferenceIdeal.Hand

/-- A sum in groups of 64 is the sum of the groups' first halves and that of their second halves. -/
theorem sum_groups {M : Type} [AddCommMonoid M] (f : ℕ → M) (G : ℕ) : ∑ K ∈ Finset.range (64 * G), f K
    = (∑ k ∈ Finset.range (32 * G), f (64 * (k / 32) + k % 32)) + ∑ k ∈ Finset.range (32 * G), f (64 * (k / 32) + 32 + k % 32) := by
  induction G with
  | zero => simp
  | succ G ih =>
    have h1 : ∀ t ∈ Finset.range 32, f (64 * ((32 * G + t) / 32) + (32 * G + t) % 32) = f (64 * G + t) := fun t ht => by
      have := Finset.mem_range.mp ht; congr 1; omega
    have h2 : ∀ t ∈ Finset.range 32, f (64 * ((32 * G + t) / 32) + 32 + (32 * G + t) % 32) = f (64 * G + (32 + t)) := fun t ht => by
      have := Finset.mem_range.mp ht; congr 1; omega
    rw [show 64 * (G + 1) = 64 * G + (32 + 32) from by omega, show 32 * (G + 1) = 32 * G + 32 from by omega, Finset.sum_range_add,
      Finset.sum_range_add _ 32 32, Finset.sum_range_add, Finset.sum_range_add, ih, Finset.sum_congr rfl h1, Finset.sum_congr rfl h2]
    exact add_add_add_comm _ _ _ _

variable (m : (ℓ : Loc Cert.KernelIdeal.nD Cert.KernelIdeal.τ Cert.KernelIdeal.sig) → Buf (Elt Ideal) ℓ) (c : Dev Cert.KernelIdeal.nD)
  (x0 : Vec Ideal Cert.KernelIdeal.S24x1x6016 .bf16) (x1 : Vec Ideal Cert.KernelIdeal.S18048x3008 .i8)
  (x2 : Vec Ideal Cert.KernelIdeal.S18048x94 .f32)

/-- The term of row `K`, in the arguments: `k` is the column of the codes, `p` is 0 for the low code and 1 for the high one. -/
theorem totalTerm_at (h0 : m ((c.tc : Thread Cert.KernelIdeal.nD Cert.KernelIdeal.τ).loc Cert.KernelIdeal.main_arg0) = x0)
    (b : Fin 24) (j : Fin 18048) (k : Fin 3008) (p : Fin 2) (i : Fin 6016) (hi : i.val = 2 * k.val + p.val) (K : ℕ)
    (hK : K = 64 * (k.val / 32) + 32 * p.val + k.val % 32) :
    totalTerm (arrX m c) x1 x2 (arrT m c) b j K
      = x0 (ix3 b 0 i) * (number (code (x1 (ix2 j k)) (32 * p.val)) * x2 (ix2 j ⟨k.val / 32, by omega⟩)) := by
  have hk := k.isLt
  have hp : p.val = 0 ∨ p.val = 1 := by omega
  have hK' : K < 6016 := by omega
  have d1 : K / 64 = k.val / 32 := by rcases hp with hp | hp <;> omega
  have d2 : K % 32 = k.val % 32 := by omega
  have d3 : K / 32 % 2 = p.val := by rcases hp with hp | hp <;> omega
  have e1 : (⟨32 * (K / 64) + K % 32, by omega⟩ : Fin 3008) = k := Fin.ext (by show 32 * (K / 64) + K % 32 = k.val; omega)
  have e2 : (⟨K / 64, by omega⟩ : Fin 94) = ⟨k.val / 32, by omega⟩ := Fin.ext d1
  have e3 : (⟨K / 64 * 64 + K % 32 * 2 + K / 32 % 2, by omega⟩ : Fin 6016) = i :=
    Fin.ext (by show K / 64 * 64 + K % 32 * 2 + K / 32 % 2 = i.val; omega)
  have e4 : code (x1 (ix2 j k)) (K % 64) = code (x1 (ix2 j k)) (32 * p.val) := by
    by_cases h : K % 64 < 32
    · rw [code, code, if_pos h, if_pos (by omega)]
    · rw [code, code, if_neg h, if_neg (by omega)]
  rw [totalTerm, dif_pos hK', arrX_at, arrT_at, h0, e1, e2, e3, e4]
  rfl

/-- The kernel's result is the reference's. -/
theorem result_eq (h0 : m ((c.tc : Thread Cert.KernelIdeal.nD Cert.KernelIdeal.τ).loc Cert.KernelIdeal.main_arg0) = x0)
    (h1 : m ((c.tc : Thread Cert.KernelIdeal.nD Cert.KernelIdeal.τ).loc Cert.KernelIdeal.main_arg1) = x1)
    (h2 : m ((c.tc : Thread Cert.KernelIdeal.nD Cert.KernelIdeal.τ).loc Cert.KernelIdeal.main_arg2) = x2) :
    result m c = Cert.ReferenceIdeal.Read.val_main_v84 (F := Ideal) x0 x1 x2 := by
  funext i
  obtain ⟨b, z, j, rfl⟩ : ∃ (b : Fin 24) (z : Fin 1) (j : Fin 18048), i = ix3 b z j :=
    ⟨i 0, i 1, i 2, funext fun a => by match a with | ⟨0, _⟩ => rfl | ⟨1, _⟩ => rfl | ⟨2, _⟩ => rfl⟩
  obtain rfl : z = 0 := Subsingleton.elim _ _
  rw [reference_at]
  have hW : arrW m c = x1 := (Cert.KernelIdeal.Gen.V_main_arg1 m c).trans h1
  have hA : arrA m c = x2 := (Cert.KernelIdeal.Gen.V_main_arg2 m c).trans h2
  show ∑ K ∈ Finset.range (64 * 94), totalTerm (arrX m c) (arrW m c) (arrA m c) (arrT m c) b j K = _
  rw [hW, hA, sum_groups, Finset.sum_range, Finset.sum_range]
  refine congrArg₂ (· + ·) (Finset.sum_congr rfl fun k _ => ?_) (Finset.sum_congr rfl fun k _ => ?_)
  · exact totalTerm_at m c x0 x1 x2 h0 b j k 0 ⟨2 * k.val, by omega⟩ rfl _ rfl
  · exact totalTerm_at m c x0 x1 x2 h0 b j k 1 ⟨2 * k.val + 1, by omega⟩ rfl _ rfl

end Cert.Equation

end
-- ==== Proof.lean ====
/-
  The certificate's claims, assembled: the frames of the kernel, of the kernel at exact arithmetic and of the reference, and
  the equality of the kernel's and the reference's results at exact arithmetic.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FrameI
public import proofs.«01_k».proof.Proof.FrameK
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The kernel terminates with its arguments unchanged and every semaphore counter at zero. -/
theorem frame_kernel [Cert.Kernel.Facts] : Cert.quiescent_Kernel := fun m ρ _ => Cert.Kernel.Hand.frame_quiescent m ρ

/-- The same of the kernel read at exact arithmetic. -/
theorem frame_ideal [Cert.KernelIdeal.Facts] : Cert.quiescent_KernelIdeal := fun m ρ _ => Cert.KernelIdeal.Hand.frame_quiescent m ρ

/-- The reference terminates with its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At exact arithmetic the kernel and the reference, run from memories that agree on the arguments, end with equal results. -/
theorem algebraic [Cert.KernelIdeal.Facts] [Cert.ReferenceIdeal.Facts] : Cert.algebraic_KernelIdeal_ReferenceIdeal := fun m g m' g' _ h =>
  ⟨fun c => Cert.KernelIdeal.Hand.result m c, Cert.KernelIdeal.Hand.value_run m g,
    (θ_run Cert.ReferenceIdeal.defs _ _).mono
      (fun r hr c => ⟨(hr c).1.trans ((Cert.ReferenceIdeal.Read.val_main_v84_eq m' c).trans
        (Cert.Equation.result_eq m c _ _ _ (h c).1.symm (h c).2.1.symm (h c).2.2.symm).symm), (hr c).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
